-- ==== Defs.lean ====
def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_separated : Cert.Pre_separated.Facts),
    quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ algebraic_KernelIdeal_ReferenceIdeal_pre_separated (hKernelIdeal := hKernelIdeal) (hReferenceIdeal := hReferenceIdeal) (hPre_separated := hPre_separated)
-- ==== Pre_separated.lean ====
abbrev S512x12x768 : Shape := ⟨3, ![512, 12, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S12x768x768 : Shape := ⟨3, ![12, 768, 768]⟩
abbrev S768x2304 : Shape := ⟨2, ![768, 2304]⟩
abbrev S512x12x2304 : Shape := ⟨3, ![512, 12, 2304]⟩
abbrev S1x1x2304 : Shape := ⟨3, ![1, 1, 2304]⟩
abbrev S512x12x12x64 : Shape := ⟨4, ![512, 12, 12, 64]⟩
abbrev S12x12x512x64 : Shape := ⟨4, ![12, 12, 512, 64]⟩
abbrev S12x12x512x512 : Shape := ⟨4, ![12, 12, 512, 512]⟩
abbrev S_ : Shape := ⟨0, ![]⟩
abbrev S12x512x512 : Shape := ⟨3, ![12, 512, 512]⟩
abbrev S1x12x512x512 : Shape := ⟨4, ![1, 12, 512, 512]⟩
abbrev S12x12x512x52 : Shape := ⟨4, ![12, 12, 512, 52]⟩
abbrev S12x12x512x1 : Shape := ⟨4, ![12, 12, 512, 1]⟩
abbrev S12x12x512 : Shape := ⟨3, ![12, 12, 512]⟩

class Facts : Prop where
  transposes_S2304x768_S768x2304_1_0 : S2304x768.Transposes [1, 0] S768x2304
  bcast_S2304_S1x1x2304_2 : S2304.BroadcastsInDim S1x1x2304 (![2] : Fin 1 → Fin S1x1x2304.rank)
  bcast_S1x1x2304_S512x12x2304_0_1_2 : S1x1x2304.BroadcastsInDim S512x12x2304 (![0, 1, 2] : Fin 3 → Fin S512x12x2304.rank)
  slices_S512x12x2304_S512x12x768_0_0_0 : S512x12x2304.Slices ![0, 0, 0] S512x12x768
  slices_S512x12x2304_S512x12x768_0_0_768 : S512x12x2304.Slices ![0, 0, 768] S512x12x768
  slices_S512x12x2304_S512x12x768_0_0_1536 : S512x12x2304.Slices ![0, 0, 1536] S512x12x768
  shapeCasts_S512x12x768_S512x12x12x64 : S512x12x768.ShapeCasts S512x12x12x64
  transposes_S512x12x12x64_S12x12x512x64_2_1_0_3 : S512x12x12x64.Transposes [2, 1, 0, 3] S12x12x512x64
  bcast_S_S12x12x512x512 : S_.BroadcastsInDim S12x12x512x512 (![] : Fin 0 → Fin S12x12x512x512.rank)
  bcast_S_S12x768x768 : S_.BroadcastsInDim S12x768x768 (![] : Fin 0 → Fin S12x768x768.rank)
  slices_S12x768x768_S12x512x512_0_0_0 : S12x768x768.Slices ![0, 0, 0] S12x512x512
  bcast_S12x512x512_S1x12x512x512_1_2_3 : S12x512x512.BroadcastsInDim S1x12x512x512 (![1, 2, 3] : Fin 3 → Fin S1x12x512x512.rank)
  bcast_S1x12x512x512_S12x12x512x512_0_1_2_3 : S1x12x512x512.BroadcastsInDim S12x12x512x512 (![0, 1, 2, 3] : Fin 4 → Fin S12x12x512x512.rank)
  sliceFits_S12x12x512x512_S12x12x512x52 : S12x12x512x512.Slices (fun _ => 0) S12x12x512x52
  slices_S12x12x512x52_S12x12x512x1_0_0_0_0 : S12x12x512x52.Slices ![0, 0, 0, 0] S12x12x512x1
  shapeCasts_S12x12x512x1_S12x12x512 : S12x12x512x1.ShapeCasts S12x12x512
  bcast_S_S12x12x512 : S_.BroadcastsInDim S12x12x512 (![] : Fin 0 → Fin S12x12x512.rank)
  slices_S12x12x512x52_S12x12x512x1_0_0_0_50 : S12x12x512x52.Slices ![0, 0, 0, 50] S12x12x512x1
  slices_S12x12x512x52_S12x12x512x1_0_0_0_51 : S12x12x512x52.Slices ![0, 0, 0, 51] S12x12x512x1
  dot_S512x12x768_S768x2304_S512x12x2304_2_0_01_1_n_n_wf : DotDims.WF S512x12x768 S768x2304 S512x12x2304 [2] [0] [0, 1] [1] [] []
  dot_S12x12x512x64_S12x12x512x64_S12x12x512x512_3_3_2_2_01_01_wf : DotDims.WF S12x12x512x64 S12x12x512x64 S12x12x512x512 [3] [3] [2] [2] [0, 1] [0, 1]

variable [Facts]

def dot_S512x12x768_S768x2304_S512x12x2304_2_0_01_1_n_n : DotDims S512x12x768 S768x2304 S512x12x2304 where
  lhsContracting := [2]
  rhsContracting := [0]
  lhsNonContracting := [0, 1]
  rhsNonContracting := [1]
  lhsBatch := []
  rhsBatch := []
  wf := dot_S512x12x768_S768x2304_S512x12x2304_2_0_01_1_n_n_wf
def dot_S12x12x512x64_S12x12x512x64_S12x12x512x512_3_3_2_2_01_01 : DotDims S12x12x512x64 S12x12x512x64 S12x12x512x512 where
  lhsContracting := [3]
  rhsContracting := [3]
  lhsNonContracting := [2]
  rhsNonContracting := [2]
  lhsBatch := [0, 1]
  rhsBatch := [0, 1]
  wf := dot_S12x12x512x64_S12x12x512x64_S12x12x512x512_3_3_2_2_01_01_wf
def fn_part1 {F : FTy → Type} [FloatOps F] (main_v21 : FVec F S12x12x512x512 .f32) : IVec S12x12x512 1 :=
  let main_values : FVec F S12x12x512x52 .f32 := (fun x => (Host.topK S12x12x512x52 3 (FloatOps.cmpfTotal .gt) x sliceFits_S12x12x512x512_S12x12x512x52).1) main_v21
  let main_indices : IVec S12x12x512x52 32 := (fun x => (Host.topK S12x12x512x52 3 (FloatOps.cmpfTotal .gt) x sliceFits_S12x12x512x512_S12x12x512x52).2) main_v21
  let main_v22 : FVec F S12x12x512x1 .f32 := (extractStridedSlice S12x12x512x1 ![0, 0, 0, 0] · slices_S12x12x512x52_S12x12x512x1_0_0_0_0) main_values
  let main_v23 : FVec F S12x12x512 .f32 := shapeCast S12x12x512 main_v22 shapeCasts_S12x12x512x1_S12x12x512
  let main_v24 : FVec F S12x12x512 .f32 := Host.absf main_v23
  let main_cst_1 : FVec F S_ .f32 := constant S_ .f32 0x7F800000#32
  let main_v25 : FVec F S12x12x512 .f32 := broadcastInDim S12x12x512 ![] bcast_S_S12x12x512 main_cst_1
  let main_v26 : IVec S12x12x512 1 := cmpf .olt main_v24 main_v25
  let main_v27 : FVec F S12x12x512x1 .f32 := (extractStridedSlice S12x12x512x1 ![0, 0, 0, 50] · slices_S12x12x512x52_S12x12x512x1_0_0_0_50) main_values
  let main_v28 : FVec F S12x12x512 .f32 := shapeCast S12x12x512 main_v27 shapeCasts_S12x12x512x1_S12x12x512
  let main_v29 : FVec F S12x12x512x1 .f32 := (extractStridedSlice S12x12x512x1 ![0, 0, 0, 51] · slices_S12x12x512x52_S12x12x512x1_0_0_0_51) main_values
  let main_v30 : FVec F S12x12x512 .f32 := shapeCast S12x12x512 main_v29 shapeCasts_S12x12x512x1_S12x12x512
  let main_v31 : IVec S12x12x512 1 := cmpf .ogt main_v28 main_v30
  let main_v32 : IVec S12x12x512 1 := andi main_v26 main_v31
  main_v32

def fn {F : FTy → Type} [FloatOps F] (main_arg0 : FVec F S512x12x768 .f32) (main_arg1 : FVec F S2304x768 .f32) (main_arg2 : FVec F S2304 .f32) (main_arg3 : FVec F S768x768 .f32) (main_arg4 : FVec F S768 .f32) (main_arg5 : FVec F S12x768x768 .f32) : IVec S12x12x512 1 :=
  let main_v0 : FVec F S768x2304 .f32 := (transpose S768x2304 [1, 0] · transposes_S2304x768_S768x2304_1_0) main_arg1
  let main_v1 : FVec F S512x12x2304 .f32 := (fun l r => Host.dotGeneral dot_S512x12x768_S768x2304_S512x12x2304_2_0_01_1_n_n none l r) main_arg0 main_v0
  let main_v2 : FVec F S1x1x2304 .f32 := broadcastInDim S1x1x2304 ![2] bcast_S2304_S1x1x2304_2 main_arg2
  let main_v3 : FVec F S512x12x2304 .f32 := broadcastInDim S512x12x2304 ![0, 1, 2] bcast_S1x1x2304_S512x12x2304_0_1_2 main_v2
  let main_v4 : FVec F S512x12x2304 .f32 := addf main_v1 main_v3
  let main_v5 : FVec F S512x12x768 .f32 := (extractStridedSlice S512x12x768 ![0, 0, 0] · slices_S512x12x2304_S512x12x768_0_0_0) main_v4
  let main_v6 : FVec F S512x12x768 .f32 := (extractStridedSlice S512x12x768 ![0, 0, 768] · slices_S512x12x2304_S512x12x768_0_0_768) main_v4
  let main_v7 : FVec F S512x12x768 .f32 := (extractStridedSlice S512x12x768 ![0, 0, 1536] · slices_S512x12x2304_S512x12x768_0_0_1536) main_v4
  let main_v8 : FVec F S512x12x12x64 .f32 := shapeCast S512x12x12x64 main_v5 shapeCasts_S512x12x768_S512x12x12x64
  let main_v9 : FVec F S12x12x512x64 .f32 := (transpose S12x12x512x64 [2, 1, 0, 3] · transposes_S512x12x12x64_S12x12x512x64_2_1_0_3) main_v8
  let main_v10 : FVec F S512x12x12x64 .f32 := shapeCast S512x12x12x64 main_v6 shapeCasts_S512x12x768_S512x12x12x64
  let main_v11 : FVec F S12x12x512x64 .f32 := (transpose S12x12x512x64 [2, 1, 0, 3] · transposes_S512x12x12x64_S12x12x512x64_2_1_0_3) main_v10
  let main_v12 : FVec F S12x12x512x512 .f32 := (fun l r => Host.dotGeneral dot_S12x12x512x64_S12x12x512x64_S12x12x512x512_3_3_2_2_01_01 none l r) main_v9 main_v11
  let main_cst : FVec F S_ .f32 := constant S_ .f32 0x41000000#32
  let main_v13 : FVec F S12x12x512x512 .f32 := broadcastInDim S12x12x512x512 ![] bcast_S_S12x12x512x512 main_cst
  let main_v14 : FVec F S12x12x512x512 .f32 := Host.divf main_v12 main_v13
  let main_cst_0 : FVec F S_ .f32 := constant S_ .f32 0x322BCC77#32
  let main_v15 : FVec F S12x768x768 .f32 := broadcastInDim S12x768x768 ![] bcast_S_S12x768x768 main_cst_0
  let main_v16 : FVec F S12x768x768 .f32 := addf main_arg5 main_v15
  let main_v17 : FVec F S12x768x768 .f32 := Host.log main_v16
  let main_v18 : FVec F S12x512x512 .f32 := (extractStridedSlice S12x512x512 ![0, 0, 0] · slices_S12x768x768_S12x512x512_0_0_0) main_v17
  let main_v19 : FVec F S1x12x512x512 .f32 := broadcastInDim S1x12x512x512 ![1, 2, 3] bcast_S12x512x512_S1x12x512x512_1_2_3 main_v18
  let main_v20 : FVec F S12x12x512x512 .f32 := broadcastInDim S12x12x512x512 ![0, 1, 2, 3] bcast_S1x12x512x512_S12x12x512x512_0_1_2_3 main_v19
  let main_v21 : FVec F S12x12x512x512 .f32 := addf main_v14 main_v20
  fn_part1 (F := F) main_v21
-- ==== KernelIdeal.lean ====
abbrev S512x12x768 : Shape := ⟨3, ![512, 12, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S12x768x768 : Shape := ⟨3, ![12, 768, 768]⟩
abbrev S36x64x768 : Shape := ⟨3, ![36, 64, 768]⟩
abbrev S36x64 : Shape := ⟨2, ![36, 64]⟩
abbrev S768x12x64 : Shape := ⟨3, ![768, 12, 64]⟩
abbrev S12x64x768 : Shape := ⟨3, ![12, 64, 768]⟩
abbrev S1x768 : Shape := ⟨2, ![1, 768]⟩
abbrev S12x512x768 : Shape := ⟨3, ![12, 512, 768]⟩
abbrev S1x512x768 : Shape := ⟨3, ![1, 512, 768]⟩
abbrev S1x512x512 : Shape := ⟨3, ![1, 512, 512]⟩
abbrev S512x512 : Shape := ⟨2, ![512, 512]⟩
abbrev S512x768 : Shape := ⟨2, ![512, 768]⟩
abbrev S1x64x768 : Shape := ⟨3, ![1, 64, 768]⟩
abbrev S64x768 : Shape := ⟨2, ![64, 768]⟩
abbrev S1x64 : Shape := ⟨2, ![1, 64]⟩
abbrev S64 : Shape := ⟨1, ![64]⟩
abbrev S512x64 : Shape := ⟨2, ![512, 64]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S512x1 : Shape := ⟨2, ![512, 1]⟩
abbrev S512x65 : Shape := ⟨2, ![512, 65]⟩

abbrev nBuf : Space → Nat
  | .hbm => 15
  | .vmem => 11
  | .smem => 0
  | _ => 0

abbrev bufTy : (tb : Table) → Fin (tcTables nBuf tb) → BufTy
  | .hbm, ⟨0, _⟩ => ⟨S512x12x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S12x768x768, .f32⟩
  | .hbm, ⟨6, _⟩ => ⟨S36x64x768, .f32⟩
  | .hbm, ⟨7, _⟩ => ⟨S36x64, .f32⟩
  | .hbm, ⟨8, _⟩ => ⟨S768x12x64, .f32⟩
  | .hbm, ⟨9, _⟩ => ⟨S12x64x768, .f32⟩
  | .hbm, ⟨10, _⟩ => ⟨S1x768, .f32⟩
  | .hbm, ⟨11, _⟩ => ⟨S12x512x768, .f32⟩
  | .hbm, ⟨12, _⟩ => ⟨S12x768x768, .f32⟩
  | .hbm, ⟨13, _⟩ => ⟨S12x512x768, .f32⟩
  | .hbm, ⟨14, _⟩ => ⟨S512x12x768, .f32⟩
  | .local _ .vmem, ⟨0, _⟩ => ⟨S1x512x768, .f32⟩
  | .local _ .vmem, ⟨1, _⟩ => ⟨S1x512x768, .f32⟩
  | .local _ .vmem, ⟨2, _⟩ => ⟨S36x64x768, .f32⟩
  | .local _ .vmem, ⟨3, _⟩ => ⟨S36x64, .f32⟩
  | .local _ .vmem, ⟨4, _⟩ => ⟨S12x64x768, .f32⟩
  | .local _ .vmem, ⟨5, _⟩ => ⟨S1x768, .f32⟩
  | .local _ .vmem, ⟨6, _⟩ => ⟨S1x512x512, .f32⟩
  | .local _ .vmem, ⟨7, _⟩ => ⟨S1x512x512, .f32⟩
  | .local _ .vmem, ⟨8, _⟩ => ⟨S1x512x768, .f32⟩
  | .local _ .vmem, ⟨9, _⟩ => ⟨S1x512x768, .f32⟩
  | .local _ .vmem, ⟨10, _⟩ => ⟨S512x512, .f32⟩
  | _, _ => ⟨S512x12x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![12, 6], ![false, false]⟩

def k0_off1 (i : grid0.Coords) : Fin 3 → Nat :=
  let c2_i32 : BitVec 32 := 2#32
  let arg1 : BitVec 32 := BitVec.ofNat 32 (i 1).val
  let v0 : BitVec 32 := Scalar.muli c2_i32 arg1
  let v8 : Index := Scalar.indexCast v0
  let c0_4 : Index := 0#32
  let c0_5 : Index := 0#32
  ![v8.toNat, 0, 0]
def k0_off2 (i : grid0.Coords) (c12_i32 : BitVec 32) : Fin 3 → Nat :=
  let c2_i32 : BitVec 32 := 2#32
  let arg1 : BitVec 32 := BitVec.ofNat 32 (i 1).val
  let v0 : BitVec 32 := Scalar.muli c2_i32 arg1
  let v12 : BitVec 32 := Scalar.addi c12_i32 v0
  let v13 : Index := Scalar.indexCast v12
  let c0_6 : Index := 0#32
  let c0_7 : Index := 0#32
  ![v13.toNat, 0, 0]
def k0_off3 (i : grid0.Coords) : Fin 2 → Nat :=
  let c2_i32 : BitVec 32 := 2#32
  let arg1 : BitVec 32 := BitVec.ofNat 32 (i 1).val
  let v0 : BitVec 32 := Scalar.muli c2_i32 arg1
  let v22 : Index := Scalar.indexCast v0
  let c0_10 : Index := 0#32
  ![v22.toNat, 0]
def k0_off4 (i : grid0.Coords) (c12_i32_11 : BitVec 32) : Fin 2 → Nat :=
  let c2_i32 : BitVec 32 := 2#32
  let arg1 : BitVec 32 := BitVec.ofNat 32 (i 1).val
  let v0 : BitVec 32 := Scalar.muli c2_i32 arg1
  let v26 : BitVec 32 := Scalar.addi c12_i32_11 v0
  let v27 : Index := Scalar.indexCast v26
  let c0_12 : Index := 0#32
  ![v27.toNat, 0]
def k0_off5 (i : grid0.Coords) : Fin 3 → Nat :=
  let c2_i32_0 : BitVec 32 := 2#32
  let arg1 : BitVec 32 := BitVec.ofNat 32 (i 1).val
  let v1 : BitVec 32 := Scalar.muli c2_i32_0 arg1
  let c1_i32 : BitVec 32 := 1#32
  let v2 : BitVec 32 := Scalar.addi v1 c1_i32
  let v53 : Index := Scalar.indexCast v2
  let c0_21 : Index := 0#32
  let c0_22 : Index := 0#32
  ![v53.toNat, 0, 0]
def k0_off6 (i : grid0.Coords) (c12_i32_23 : BitVec 32) : Fin 3 → Nat :=
  let c2_i32_0 : BitVec 32 := 2#32
  let arg1 : BitVec 32 := BitVec.ofNat 32 (i 1).val
  let v1 : BitVec 32 := Scalar.muli c2_i32_0 arg1
  let c1_i32 : BitVec 32 := 1#32
  let v2 : BitVec 32 := Scalar.addi v1 c1_i32
  let v57 : BitVec 32 := Scalar.addi c12_i32_23 v2
  let v58 : Index := Scalar.indexCast v57
  let c0_24 : Index := 0#32
  let c0_25 : Index := 0#32
  ![v58.toNat, 0, 0]
def k0_off7 (i : grid0.Coords) : Fin 2 → Nat :=
  let c2_i32_0 : BitVec 32 := 2#32
  let arg1 : BitVec 32 := BitVec.ofNat 32 (i 1).val
  let v1 : BitVec 32 := Scalar.muli c2_i32_0 arg1
  let c1_i32 : BitVec 32 := 1#32
  let v2 : BitVec 32 := Scalar.addi v1 c1_i32
  let v67 : Index := Scalar.indexCast v2
  let c0_29 : Index := 0#32
  ![v67.toNat, 0]
def k0_off8 (i : grid0.Coords) (c12_i32_30 : BitVec 32) : Fin 2 → Nat :=
  let c2_i32_0 : BitVec 32 := 2#32
  let arg1 : BitVec 32 := BitVec.ofNat 32 (i 1).val
  let v1 : BitVec 32 := Scalar.muli c2_i32_0 arg1
  let c1_i32 : BitVec 32 := 1#32
  let v2 : BitVec 32 := Scalar.addi v1 c1_i32
  let v71 : BitVec 32 := Scalar.addi c12_i32_30 v2
  let v72 : Index := Scalar.indexCast v71
  let c0_31 : Index := 0#32
  ![v72.toNat, 0]
@[reducible] def k0_t1_loop : Scf.Loop 32 :=
  let c0_i32_45 : BitVec 32 := 0#32
  let c13_i32 : BitVec 32 := 13#32
  let v106 : BitVec 32 := Scalar.addi c0_i32_45 c13_i32
  let c1_i32_46 : BitVec 32 := 1#32
  ⟨c0_i32_45, v106, c1_i32_46⟩
def k0_off9 (i : grid0.Coords) : Fin 3 → Nat :=
  let c2_i32 : BitVec 32 := 2#32
  let arg1 : BitVec 32 := BitVec.ofNat 32 (i 1).val
  let v0 : BitVec 32 := Scalar.muli c2_i32 arg1
  let v162 : Index := Scalar.indexCast v0
  let c0_59 : Index := 0#32
  let c0_60 : Index := 0#32
  ![v162.toNat, 0, 0]
def k0_off10 (i : grid0.Coords) : Fin 3 → Nat :=
  let c2_i32_0 : BitVec 32 := 2#32
  let arg1 : BitVec 32 := BitVec.ofNat 32 (i 1).val
  let v1 : BitVec 32 := Scalar.muli c2_i32_0 arg1
  let c1_i32 : BitVec 32 := 1#32
  let v2 : BitVec 32 := Scalar.addi v1 c1_i32
  let v175 : Index := Scalar.indexCast v2
  let c0_64 : Index := 0#32
  let c0_65 : Index := 0#32
  ![v175.toNat, 0, 0]
def k0_cond2 (i : grid0.Coords) : BitVec 1 :=
  let arg1 : BitVec 32 := BitVec.ofNat 32 (i 1).val
  let c0_i32_67 : BitVec 32 := 0#32
  let v181 : BitVec 1 := Scalar.cmpi .eq arg1 c0_i32_67
  let v182 : BitVec 32 := Scalar.extui v181
  let c0_i32_68 : BitVec 32 := 0#32
  let v183 : BitVec 1 := Scalar.cmpi .ne v182 c0_i32_68
  v183

def k0_cond3 (i : grid0.Coords) : BitVec 1 :=
  let arg1 : BitVec 32 := BitVec.ofNat 32 (i 1).val
  let c0_i32_69 : BitVec 32 := 0#32
  let v184 : BitVec 1 := Scalar.cmpi .ne arg1 c0_i32_69
  let v185 : BitVec 32 := Scalar.extui v184
  let c0_i32_70 : BitVec 32 := 0#32
  let v186 : BitVec 1 := Scalar.cmpi .ne v185 c0_i32_70
  v186

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S36x64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S36x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S512x12x768 : Shape := ⟨3, ![512, 12, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S12x768x768 : Shape := ⟨3, ![12, 768, 768]⟩
abbrev S768x2304 : Shape := ⟨2, ![768, 2304]⟩
abbrev S512x12x2304 : Shape := ⟨3, ![512, 12, 2304]⟩
abbrev S1x1x2304 : Shape := ⟨3, ![1, 1, 2304]⟩
abbrev S512x12x12x64 : Shape := ⟨4, ![512, 12, 12, 64]⟩
abbrev S12x12x512x64 : Shape := ⟨4, ![12, 12, 512, 64]⟩
abbrev S12x12x512x512 : Shape := ⟨4, ![12, 12, 512, 512]⟩
abbrev S_ : Shape := ⟨0, ![]⟩
abbrev S12x512x512 : Shape := ⟨3, ![12, 512, 512]⟩
abbrev S1x12x512x512 : Shape := ⟨4, ![1, 12, 512, 512]⟩
abbrev S12x12x512x51 : Shape := ⟨4, ![12, 12, 512, 51]⟩
abbrev S73728x512 : Shape := ⟨2, ![73728, 512]⟩
abbrev S73728x51 : Shape := ⟨2, ![73728, 51]⟩
abbrev S73728 : Shape := ⟨1, ![73728]⟩
abbrev S73728x1 : Shape := ⟨2, ![73728, 1]⟩
abbrev S73728x51x1 : Shape := ⟨3, ![73728, 51, 1]⟩
abbrev S73728x51x2 : Shape := ⟨3, ![73728, 51, 2]⟩
abbrev S12x12x512 : Shape := ⟨3, ![12, 12, 512]⟩
abbrev S12x12x512x1 : Shape := ⟨4, ![12, 12, 512, 1]⟩
abbrev S1x1x768 : Shape := ⟨3, ![1, 1, 768]⟩

abbrev nBuf : Space → Nat
  | .hbm => 85
  | .vmem => 0
  | .smem => 0
  | _ => 0

abbrev bufTy : (tb : Table) → Fin (tcTables nBuf tb) → BufTy
  | .hbm, ⟨0, _⟩ => ⟨S512x12x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S12x768x768, .f32⟩
  | .hbm, ⟨6, _⟩ => ⟨S768x2304, .f32⟩
  | .hbm, ⟨7, _⟩ => ⟨S512x12x2304, .f32⟩
  | .hbm, ⟨8, _⟩ => ⟨S1x1x2304, .f32⟩
  | .hbm, ⟨9, _⟩ => ⟨S512x12x2304, .f32⟩
  | .hbm, ⟨10, _⟩ => ⟨S512x12x2304, .f32⟩
  | .hbm, ⟨11, _⟩ => ⟨S512x12x768, .f32⟩
  | .hbm, ⟨12, _⟩ => ⟨S512x12x768, .f32⟩
  | .hbm, ⟨13, _⟩ => ⟨S512x12x768, .f32⟩
  | .hbm, ⟨14, _⟩ => ⟨S512x12x12x64, .f32⟩
  | .hbm, ⟨15, _⟩ => ⟨S12x12x512x64, .f32⟩
  | .hbm, ⟨16, _⟩ => ⟨S512x12x12x64, .f32⟩
  | .hbm, ⟨17, _⟩ => ⟨S12x12x512x64, .f32⟩
  | .hbm, ⟨18, _⟩ => ⟨S512x12x12x64, .f32⟩
  | .hbm, ⟨19, _⟩ => ⟨S12x12x512x64, .f32⟩
  | .hbm, ⟨20, _⟩ => ⟨S12x12x512x512, .f32⟩
  | .hbm, ⟨21, _⟩ => ⟨S_, .f32⟩
  | .hbm, ⟨22, _⟩ => ⟨S12x12x512x512, .f32⟩
  | .hbm, ⟨23, _⟩ => ⟨S12x12x512x512, .f32⟩
  | .hbm, ⟨24, _⟩ => ⟨S_, .f32⟩
  | .hbm, ⟨25, _⟩ => ⟨S12x768x768, .f32⟩
  | .hbm, ⟨26, _⟩ => ⟨S12x768x768, .f32⟩
  | .hbm, ⟨27, _⟩ => ⟨S12x768x768, .f32⟩
  | .hbm, ⟨28, _⟩ => ⟨S12x512x512, .f32⟩
  | .hbm, ⟨29, _⟩ => ⟨S1x12x512x512, .f32⟩
  | .hbm, ⟨30, _⟩ => ⟨S12x12x512x512, .f32⟩
  | .hbm, ⟨31, _⟩ => ⟨S12x12x512x512, .f32⟩
  | .hbm, ⟨32, _⟩ => ⟨S12x12x512x51, .f32⟩
  | .hbm, ⟨33, _⟩ => ⟨S12x12x512x51, .i32⟩
  | .hbm, ⟨34, _⟩ => ⟨S_, .f32⟩
  | .hbm, ⟨35, _⟩ => ⟨S12x12x512x512, .f32⟩
  | .hbm, ⟨36, _⟩ => ⟨S73728x512, .f32⟩
  | .hbm, ⟨37, _⟩ => ⟨S73728x51, .i32⟩
  | .hbm, ⟨38, _⟩ => ⟨S73728, .i32⟩
  | .hbm, ⟨39, _⟩ => ⟨S73728x1, .i32⟩
  | .hbm, ⟨40, _⟩ => ⟨S_, .i32⟩
  | .hbm, ⟨41, _⟩ => ⟨S73728x1, .i32⟩
  | .hbm, ⟨42, _⟩ => ⟨S73728x1, .i1⟩
  | .hbm, ⟨43, _⟩ => ⟨S_, .i32⟩
  | .hbm, ⟨44, _⟩ => ⟨S73728x1, .i32⟩
  | .hbm, ⟨45, _⟩ => ⟨S73728x1, .i32⟩
  | .hbm, ⟨46, _⟩ => ⟨S73728x1, .i32⟩
  | .hbm, ⟨47, _⟩ => ⟨S_, .i32⟩
  | .hbm, ⟨48, _⟩ => ⟨S73728x51, .i32⟩
  | .hbm, ⟨49, _⟩ => ⟨S73728x51, .i1⟩
  | .hbm, ⟨50, _⟩ => ⟨S_, .i32⟩
  | .hbm, ⟨51, _⟩ => ⟨S73728x51, .i32⟩
  | .hbm, ⟨52, _⟩ => ⟨S73728x51, .i32⟩
  | .hbm, ⟨53, _⟩ => ⟨S73728x51, .i32⟩
  | .hbm, ⟨54, _⟩ => ⟨S73728x51, .i32⟩
  | .hbm, ⟨55, _⟩ => ⟨S73728x51x1, .i32⟩
  | .hbm, ⟨56, _⟩ => ⟨S73728x51x1, .i32⟩
  | .hbm, ⟨57, _⟩ => ⟨S73728x51x2, .i32⟩
  | .hbm, ⟨58, _⟩ => ⟨S_, .f32⟩
  | .hbm, ⟨59, _⟩ => ⟨S73728x51, .f32⟩
  | .hbm, ⟨60, _⟩ => ⟨S73728x512, .f32⟩
  | .hbm, ⟨61, _⟩ => ⟨S12x12x512x512, .f32⟩
  | .hbm, ⟨62, _⟩ => ⟨S12x12x512x512, .f32⟩
  | .hbm, ⟨63, _⟩ => ⟨S_, .f32⟩
  | .hbm, ⟨64, _⟩ => ⟨S12x12x512, .f32⟩
  | .hbm, ⟨65, _⟩ => ⟨S_, .f32⟩
  | .hbm, ⟨66, _⟩ => ⟨S12x12x512, .f32⟩
  | .hbm, ⟨67, _⟩ => ⟨S12x12x512, .f32⟩
  | .hbm, ⟨68, _⟩ => ⟨S12x12x512x1, .f32⟩
  | .hbm, ⟨69, _⟩ => ⟨S12x12x512x512, .f32⟩
  | .hbm, ⟨70, _⟩ => ⟨S12x12x512x512, .f32⟩
  | .hbm, ⟨71, _⟩ => ⟨S12x12x512x512, .f32⟩
  | .hbm, ⟨72, _⟩ => ⟨S_, .f32⟩
  | .hbm, ⟨73, _⟩ => ⟨S12x12x512, .f32⟩
  | .hbm, ⟨74, _⟩ => ⟨S12x12x512x1, .f32⟩
  | .hbm, ⟨75, _⟩ => ⟨S12x12x512x512, .f32⟩
  | .hbm, ⟨76, _⟩ => ⟨S12x12x512x512, .f32⟩
  | .hbm, ⟨77, _⟩ => ⟨S12x12x512x64, .f32⟩
  | .hbm, ⟨78, _⟩ => ⟨S512x12x12x64, .f32⟩
  | .hbm, ⟨79, _⟩ => ⟨S512x12x768, .f32⟩
  | .hbm, ⟨80, _⟩ => ⟨S768x768, .f32⟩
  | .hbm, ⟨81, _⟩ => ⟨S512x12x768, .f32⟩
  | .hbm, ⟨82, _⟩ => ⟨S1x1x768, .f32⟩
  | .hbm, ⟨83, _⟩ => ⟨S512x12x768, .f32⟩
  | .hbm, ⟨84, _⟩ => ⟨S512x12x768, .f32⟩
  | _, _ => ⟨S512x12x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_values : Ref sig .tc := ⟨.hbm, 32, rfl⟩
abbrev main_indices : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.KI.Runs.lean ====
/-
  What surrounds the kernel's body: the host lines before and after the call, the blocks the body sees at each point, which
  branches it takes there, and the buffers it is handed.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.KernelVsHost
public import Idealize.ShloMosaic.Lib.Claim

@[expose] public section

-- the long axes of the blocks need it
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## @main around the region -/

/-- Core `c`'s TensorCore buffer contents when the region is entered, as a valuation: after the host operations before
    the region (`hostOps0`). -/
abbrev V0 (c : Dev nD) : Valuation τ sig (Elt Ideal) := StableHlo.after (List.flatten [hostOps0]) (fun b => m (c, b))
/-- The same read at a TensorCore reference. -/
abbrev V (c : Dev nD) (b : Ref sig .tc) : Buf (Elt Ideal) ((c : Thread nD τ).loc b) := V0 m c (Proc.devRef .tc b)

theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor

set_option maxHeartbeats 800000 in
/-- The program is the host lines before the call, the call, and the host lines after it. -/
theorem hmain (𝒱₀ : Variants) : Pipeline.HMainK (Ix := Unit) (Name := ℕ) (U := UR sig nD τ) (Lvl := ℕ) (cfgs (F := Ideal)) 0 (defs₀ (F := Ideal)) 𝒱₀ m (main (F := Ideal)) (V m)
      (fun _ => Pipeline.chain ([hostOps1].map StableHlo.seq)) :=
  Pipeline.hmain_around (cfgs (F := Ideal)) 0 (defs₀ (F := Ideal)) 𝒱₀ m main [hostOps0] [hostOps1] (by simp only [List.Forall]; exact hostOps0_sub)
    (by simp only [List.Forall]; exact hostOps0_fresh) main_chain

/-- The lines after the call touch only the call's arrays and buffers that it leaves alone. -/
theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 (launch0 (F := Ideal)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt Ideal)))), ∀ op ∈ ops, op.fresh = ∅ := by
  intro ops hops op hop
  simp only [List.mem_cons, List.mem_nil_iff, or_false] at hops
  rcases hops with rfl
  · exact (List.forall_iff_forall_mem.mp hostOps1_fresh) op hop
/-- They write none of the call's arrays. -/
theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt Ideal) Unit ℕ (UR sig nD τ) ℕ ((cfgs (F := Ideal)) p) c) (c : Dev nD) :
    Pipeline.afterTail₀ (cfgs (F := Ideal)) dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin (cfg0 (F := Ideal)).W) (t : Fin (cfg0 (F := Ideal)).N) : (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

/-- Input 0's buffer holds its block at every point, whether it was fetched there or before. -/
theorem before0_0_of {c : Dev nD} (dat : Dat τ (Elt Ideal) Unit ℕ (UR sig nD τ) ℕ (cfg0 (F := Ideal)) c) (hA : dat.A 0 = V m c (Pipeline.arrRef spec0 0))
    (hafter : ∀ t, dat.after 0 t = iblk m c 0 t) (t : Fin (cfg0 (F := Ideal)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, whether it was fetched there or before. -/
theorem before0_1_of {c : Dev nD} (dat : Dat τ (Elt Ideal) Unit ℕ (UR sig nD τ) ℕ (cfg0 (F := Ideal)) c) (hA : dat.A 1 = V m c (Pipeline.arrRef spec0 1))
    (hafter : ∀ t, dat.after 1 t = iblk m c 1 t) (t : Fin (cfg0 (F := Ideal)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, whether it was fetched there or before. -/
theorem before0_2_of {c : Dev nD} (dat : Dat τ (Elt Ideal) Unit ℕ (UR sig nD τ) ℕ (cfg0 (F := Ideal)) c) (hA : dat.A 2 = V m c (Pipeline.arrRef spec0 2))
    (hafter : ∀ t, dat.after 2 t = iblk m c 2 t) (t : Fin (cfg0 (F := Ideal)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, whether it was fetched there or before. -/
theorem before0_3_of {c : Dev nD} (dat : Dat τ (Elt Ideal) Unit ℕ (UR sig nD τ) ℕ (cfg0 (F := Ideal)) c) (hA : dat.A 3 = V m c (Pipeline.arrRef spec0 3))
    (hafter : ∀ t, dat.after 3 t = iblk m c 3 t) (t : Fin (cfg0 (F := Ideal)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point, whether it was fetched there or before. -/
theorem before0_4_of {c : Dev nD} (dat : Dat τ (Elt Ideal) Unit ℕ (UR sig nD τ) ℕ (cfg0 (F := Ideal)) c) (hA : dat.A 4 = V m c (Pipeline.arrRef spec0 4))
    (hafter : ∀ t, dat.after 4 t = iblk m c 4 t) (t : Fin (cfg0 (F := Ideal)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- A value for the part of input 5's buffer that a cut block would leave unfilled; no block is cut, and nothing reads it. -/
def dflt0_5 : ((cfg0 (F := Ideal)).win 5).block.Idx → Elt Ideal ((cfg0 (F := Ideal)).win 5).elt := fun _ => Classical.choice inferInstance
/-- What input 5's buffer holds at point `t`: its block. -/
def X0_5 (c : Dev nD) (t : Fin (cfg0 (F := Ideal)).N) : ((cfg0 (F := Ideal)).win 5).block.Idx → Elt Ideal ((cfg0 (F := Ideal)).win 5).elt :=
  ((cfg0 (F := Ideal)).win 5).fill ((cfg0 (F := Ideal)).grid.coords t) dflt0_5 (iblk m c 5 t)
/-- No block of input 5 is cut. -/
theorem xsize0_5 : ∀ t : Fin (cfg0 (F := Ideal)).N, ∀ a, ((cfg0 (F := Ideal)).win 5).xsize ((cfg0 (F := Ideal)).grid.coords t) a = ((cfg0 (F := Ideal)).win 5).size a := by decide +kernel
/-- Every index of input window 5's block is moved at every point. -/
theorem moved0_5 (t : Fin (cfg0 (F := Ideal)).N) (j : ((cfg0 (F := Ideal)).win 5).block.Idx) : ((cfg0 (F := Ideal)).win 5).moved ((cfg0 (F := Ideal)).grid.coords t) j = true :=
  (((cfg0 (F := Ideal)).win 5).moved_iff _ j).mpr fun a => by rw [xsize0_5 t a]; exact (j a).isLt
/-- A fill of input window 5's block covers the whole buffer, whatever it held. -/
theorem fill0_5 (t : Fin (cfg0 (F := Ideal)).N) (d d' : ((cfg0 (F := Ideal)).win 5).block.Idx → Elt Ideal ((cfg0 (F := Ideal)).win 5).elt) (g) :
    ((cfg0 (F := Ideal)).win 5).fill ((cfg0 (F := Ideal)).grid.coords t) d g = ((cfg0 (F := Ideal)).win 5).fill ((cfg0 (F := Ideal)).grid.coords t) d' g := by
  funext j; unfold Pipeline.Window.fill; rw [dif_pos (moved0_5 t j), dif_pos (moved0_5 t j)]
/-- Input 5's buffer holds `X0_5` at every point, whether it was fetched there or before. -/
theorem before0_5_of {c : Dev nD} (dat : Dat τ (Elt Ideal) Unit ℕ (UR sig nD τ) ℕ (cfg0 (F := Ideal)) c) (hA : dat.A 5 = V m c (Pipeline.arrRef spec0 5))
    (hafter : ∀ t, dat.after 5 t = X0_5 m c t) (t : Fin (cfg0 (F := Ideal)).N) (d) : dat.before 5 t d = X0_5 m c t :=
  (dat.before_in_eq_fetched 5 rfl (fun _ => rfl)
      (fun t t' h => funext fun a => congrArg (fun n => Pipeline.Clip.of n (((cfg0 (F := Ideal)).win 5).size a) (S12x768x768.size a)) (congrFun h a))
      (fun t => by rw [hafter]; unfold X0_5; rw [Pipeline.Window.cut_fill]; unfold Dat.blockOf iblk; rw [hA]; try rfl) t d).trans
    (by unfold Dat.fetched X0_5; rw [fill0_5 t d dflt0_5]; unfold Dat.blockOf iblk; rw [hA]; try rfl)

/-! ## The arguments after a run -/

/-- A run that ends with the call's arrays and every other buffer as computed ends with the arguments unchanged. -/
theorem frame_of (dats : (p : Fin 1) → (c : Dev nD) → Dat τ (Elt Ideal) Unit ℕ (UR sig nD τ) ℕ ((cfgs (F := Ideal)) p) c)
    (hA : ∀ c w, (dats 0 c).A w = V m c (Pipeline.arrRef spec0 w))
    (h : θ_run defs (onTc (τ := τ) (main (F := Ideal))) (s₀ m ρ) (Pipeline.FramePost (cfgs (F := Ideal)) dats 0 (Pipeline.afterTail₀ (cfgs (F := Ideal)) dats 0 (V0 m) [hostOps1]))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's branch conditions -/

/-- The condition of the body's branch 0, of the grid's coordinates. -/
abbrev cond0_0 (i : grid0.Coords) : Prop := (Scalar.cmpi .ne (Scalar.extui (Scalar.cmpi .eq (BitVec.ofNat 32 (i 1).val) 0#32)) 0#32) = 1#1
/-- It holds at the first point of each batch. -/
theorem hcond0_0 : ∀ t : Fin (cfg0 (F := Ideal)).N, cond0_0 (grid0.coords t) ↔ t.val % 6 = 0 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

/-- The condition of the body's branch 1, of the grid's coordinates. -/
abbrev cond0_1 (i : grid0.Coords) : Prop := k0_cond2 i = 1#1
/-- It holds at the first point of each batch. -/
theorem hcond0_1 : ∀ t : Fin (cfg0 (F := Ideal)).N, cond0_1 (grid0.coords t) ↔ t.val % 6 = 0 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val % 6 = 0)

/-- The condition of the body's branch 2, of the grid's coordinates. -/
abbrev cond0_2 (i : grid0.Coords) : Prop := k0_cond3 i = 1#1
/-- It holds at every other point. -/
theorem hcond0_2 : ∀ t : Fin (cfg0 (F := Ideal)).N, cond0_2 (grid0.coords t) ↔ 1 ≤ t.val % 6 :=
  (fun t => by
    have ht : t.val < 72 := Nat.lt_of_lt_of_eq t.isLt N_0
    have e0 : (grid0.coords t 0).val = t.val / 6 % 12 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ 1 ≤ t.val % 6)

/-! ## Where the windows are idle -/

/-- Window 0 is never idle (an input). -/
theorem liveAt0_0 : ∀ t : Fin (cfg0 (F := Ideal)).N, (cfg0 (F := Ideal)).idle 0 (grid0.coords t) = false := fun _ => rfl
/-- Window 1 is never idle (an input). -/
theorem liveAt0_1 : ∀ t : Fin (cfg0 (F := Ideal)).N, (cfg0 (F := Ideal)).idle 1 (grid0.coords t) = false := fun _ => rfl
/-- Window 2 is never idle (an input). -/
theorem liveAt0_2 : ∀ t : Fin (cfg0 (F := Ideal)).N, (cfg0 (F := Ideal)).idle 2 (grid0.coords t) = false := fun _ => rfl
/-- Window 3 is never idle (an input). -/
theorem liveAt0_3 : ∀ t : Fin (cfg0 (F := Ideal)).N, (cfg0 (F := Ideal)).idle 3 (grid0.coords t) = false := fun _ => rfl
/-- Window 4 is never idle (an input). -/
theorem liveAt0_4 : ∀ t : Fin (cfg0 (F := Ideal)).N, (cfg0 (F := Ideal)).idle 4 (grid0.coords t) = false := fun _ => rfl
/-- Window 5 is never idle (an input). -/
theorem liveAt0_5 : ∀ t : Fin (cfg0 (F := Ideal)).N, (cfg0 (F := Ideal)).idle 5 (grid0.coords t) = false := fun _ => rfl
/-- At which positions nothing has been stored into the output's buffer since the call began or since it was last written
    back, as bits: bit `n` for position `n + 1`. -/
def freshTab0_6 : ℕ → Bool
  | 0 => true
  | n + 1 => (0x820820820820820820 : ℕ).testBit n
theorem freshTab0_6_step : ∀ t : Fin (cfg0 (F := Ideal)).N,
    freshTab0_6 (t.val + 1) = (((cfg0 (F := Ideal)).win 6).flush t || ((cfg0 (F := Ideal)).idle 6 ((cfg0 (F := Ideal)).grid.coords t) && freshTab0_6 t.val)) := by decide +kernel
theorem fresh0_6_eq (t : Fin (cfg0 (F := Ideal)).N) : (cfg0 (F := Ideal)).fresh 6 t.val = freshTab0_6 t.val :=
  Pipeline.Cfg.fresh_tab (cfg0 (F := Ideal)) 6 freshTab0_6 rfl freshTab0_6_step t.val (Nat.le_of_lt t.isLt)
/-- At the points of case A the output is stored into. -/
theorem liveAt0_6_A : ∀ t : Fin (cfg0 (F := Ideal)).N, cond0_0 (grid0.coords t) → cond0_1 (grid0.coords t) → ¬cond0_2 (grid0.coords t) → (cfg0 (F := Ideal)).idle 6 (grid0.coords t) = false := by decide +kernel
/-- At the points of case B the output is stored into. -/
theorem liveAt0_6_B : ∀ t : Fin (cfg0 (F := Ideal)).N, ¬cond0_0 (grid0.coords t) → ¬cond0_1 (grid0.coords t) → cond0_2 (grid0.coords t) → (cfg0 (F := Ideal)).idle 6 (grid0.coords t) = false := by decide +kernel
/-- At the points of case B the output's buffer holds what an earlier point stored. -/
theorem notFresh0_6_B : ∀ t : Fin (cfg0 (F := Ideal)).N, ¬cond0_0 (grid0.coords t) → ¬cond0_1 (grid0.coords t) → cond0_2 (grid0.coords t) → (cfg0 (F := Ideal)).fresh 6 t.val = false := by
  intro t; rw [fresh0_6_eq t]; revert t; decide +kernel

/-! ## The buffers that the body is handed -/

/-- One buffer of the output, through which its contents are stated; which one does not matter. -/
abbrev VO0_6 : View sig .tc .vmem S1x512x768 .f32 := (Memref.whole cc0_stg6_0 : Memref sig .tc .vmem S1x512x768 .f32).view
/-- Each window's buffer at point `t`. -/
abbrev ms0_0 (t : Fin (cfg0 (F := Ideal)).N) : Memref sig .tc .vmem S1x512x768 .f32 := win0_0.stage ((cfg0 (F := Ideal)).slots t 0)
abbrev hs0_0 (t : Fin (cfg0 (F := Ideal)).N) : (ms0_0 t).IsWhole := hstage0_0 (((cfg0 (F := Ideal)).slots t 0).cast nbuf0_0)
abbrev ms0_1 (t : Fin (cfg0 (F := Ideal)).N) : Memref sig .tc .vmem S36x64x768 .f32 := win0_1.stage ((cfg0 (F := Ideal)).slots t 1)
abbrev hs0_1 (t : Fin (cfg0 (F := Ideal)).N) : (ms0_1 t).IsWhole := hstage0_1 (((cfg0 (F := Ideal)).slots t 1).cast nbuf0_1)
abbrev ms0_2 (t : Fin (cfg0 (F := Ideal)).N) : Memref sig .tc .vmem S36x64 .f32 := win0_2.stage ((cfg0 (F := Ideal)).slots t 2)
abbrev hs0_2 (t : Fin (cfg0 (F := Ideal)).N) : (ms0_2 t).IsWhole := hstage0_2 (((cfg0 (F := Ideal)).slots t 2).cast nbuf0_2)
abbrev ms0_3 (t : Fin (cfg0 (F := Ideal)).N) : Memref sig .tc .vmem S12x64x768 .f32 := win0_3.stage ((cfg0 (F := Ideal)).slots t 3)
abbrev hs0_3 (t : Fin (cfg0 (F := Ideal)).N) : (ms0_3 t).IsWhole := hstage0_3 (((cfg0 (F := Ideal)).slots t 3).cast nbuf0_3)
abbrev ms0_4 (t : Fin (cfg0 (F := Ideal)).N) : Memref sig .tc .vmem S1x768 .f32 := win0_4.stage ((cfg0 (F := Ideal)).slots t 4)
abbrev hs0_4 (t : Fin (cfg0 (F := Ideal)).N) : (ms0_4 t).IsWhole := hstage0_4 (((cfg0 (F := Ideal)).slots t 4).cast nbuf0_4)
abbrev ms0_5 (t : Fin (cfg0 (F := Ideal)).N) : Memref sig .tc .vmem S1x512x512 .f32 := win0_5.stage ((cfg0 (F := Ideal)).slots t 5)
abbrev hs0_5 (t : Fin (cfg0 (F := Ideal)).N) : (ms0_5 t).IsWhole := hstage0_5 (((cfg0 (F := Ideal)).slots t 5).cast nbuf0_5)
abbrev ms0_6 (t : Fin (cfg0 (F := Ideal)).N) : Memref sig .tc .vmem S1x512x768 .f32 := win0_6.stage ((cfg0 (F := Ideal)).slots t 6)
abbrev hs0_6 (t : Fin (cfg0 (F := Ideal)).N) : (ms0_6 t).IsWhole := hstage0_6 (((cfg0 (F := Ideal)).slots t 6).cast nbuf0_6)
/-- The scratch operands: whole scoped buffers of the kernel's own, passed beside the windows. -/
abbrev scM0_0 : Memref sig .tc .vmem S512x512 .f32 := Memref.whole cc0_scratch0
/-- The scratch `arg9` the kernel carries between points, as a view: what it holds is stated through it. -/
abbrev VS0_0 : View sig .tc .vmem S512x512 .f32 := scM0_0.view

/-- What holds between points, with the scratch buffer at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.KI

end
-- ==== Proof.Thr.Count.lean ====
/-
  Counting in one column of scores: a column is a map from 512 positions to the extended reals. The value looked for is the
  51st largest entry of the column; here it is characterised by two counts (`IsThr`), shown unique, and the two ways the
  kernel searches for it — halving an interval, then walking down the distinct values below the interval's upper end —
  are shown to keep the facts that name it.
-/
module

public import Mathlib.Data.EReal.Basic
public import Mathlib.Data.EReal.Operations
public import Mathlib.Data.Fintype.Card
public import Mathlib.Algebra.BigOperators.Group.Finset.Basic
public import Mathlib.Data.Finset.Lattice.Fold
public import Mathlib.Order.CompleteLattice.Finset

@[expose] public section

noncomputable section

namespace Cert.Proof.Thr

open Finset

/-- How many entries of the column are at least `x`, -/
def cge (f : Fin 512 → EReal) (x : EReal) : ℕ := (univ.filter fun t => x ≤ f t).card
/-- are above `x`, -/
def cgt (f : Fin 512 → EReal) (x : EReal) : ℕ := (univ.filter fun t => x < f t).card
/-- are equal to `x`. -/
def ceq (f : Fin 512 → EReal) (x : EReal) : ℕ := (univ.filter fun t => f t = x).card

/-- `x` is the 51st largest entry: it is an entry, at least 51 entries reach it, fewer than 51 exceed it. -/
def IsThr (f : Fin 512 → EReal) (x : EReal) : Prop := (∃ t, f t = x) ∧ 51 ≤ cge f x ∧ cgt f x < 51

theorem cge_le (f : Fin 512 → EReal) (x : EReal) : cge f x ≤ 512 := by
  unfold cge; exact (card_le_univ _).trans (by simp)

theorem ceq_le (f : Fin 512 → EReal) (x : EReal) : ceq f x ≤ 512 := by
  unfold ceq; exact (card_le_univ _).trans (by simp)

/-- Two 51st largest entries agree. -/
theorem IsThr.unique {f : Fin 512 → EReal} {x y : EReal} (hx : IsThr f x) (hy : IsThr f y) : x = y := by
  have key : ∀ {x y : EReal}, IsThr f x → IsThr f y → ¬ x < y := by
    intro x y hx hy h
    have h1 : cge f y ≤ cgt f x := by
      unfold cge cgt
      exact card_le_card (fun t ht => by
        simp only [mem_filter, mem_univ, true_and] at ht ⊢; exact lt_of_lt_of_le h ht)
    have := hx.2.2; have := hy.2.1; omega
  exact le_antisymm (not_lt.mp (key hy hx)) (not_lt.mp (key hx hy))

open Classical in
/-- The 51st largest entry of a column (when some entry is one: `thrOf_eq`). -/
def thrOf (f : Fin 512 → EReal) : EReal := if h : ∃ x, IsThr f x then h.choose else ⊥

theorem thrOf_eq {f : Fin 512 → EReal} {x : EReal} (h : IsThr f x) : thrOf f = x := by
  unfold thrOf
  rw [dif_pos ⟨x, h⟩]
  exact IsThr.unique (Exists.choose_spec ⟨x, h⟩) h

/-- Every entry reaches the least one. -/
theorem cge_inf (f : Fin 512 → EReal) : 51 ≤ cge f (univ.inf f) := by
  have : cge f (univ.inf f) = 512 := by
    unfold cge
    rw [filter_true_of_mem (fun t _ => inf_le (mem_univ t))]
    simp
  omega

/-- No entry exceeds the greatest one, and some entry is it. -/
theorem cgt_sup (f : Fin 512 → EReal) : cgt f (univ.sup f) = 0 := by
  unfold cgt
  rw [card_eq_zero, filter_eq_empty_iff]
  intro t _
  exact not_lt.mpr (le_sup (f := f) (mem_univ t))

theorem exists_sup (f : Fin 512 → EReal) : ∃ t, f t = univ.sup f := by
  obtain ⟨t, -, ht⟩ := exists_mem_eq_sup univ ⟨0, mem_univ _⟩ f
  exact ⟨t, ht.symm⟩

/-- What the halving keeps: at least 51 entries reach the lower end; fewer than 51 reach the upper end, or the upper end is
    still the column's greatest entry. -/
def Bis (f : Fin 512 → EReal) (lo hi : EReal) : Prop := 51 ≤ cge f lo ∧ (cge f hi < 51 ∨ hi = univ.sup f)

theorem Bis.init (f : Fin 512 → EReal) : Bis f (univ.inf f) (univ.sup f) := ⟨cge_inf f, .inr rfl⟩

/-- One halving, at any point `mid` whatever: the end the count says moves to `mid`. -/
theorem Bis.step {f : Fin 512 → EReal} {lo hi : EReal} (h : Bis f lo hi) (mid : EReal) :
    Bis f (if 51 ≤ cge f mid then mid else lo) (if 51 ≤ cge f mid then hi else mid) := by
  by_cases hm : 51 ≤ cge f mid
  · rw [if_pos hm, if_pos hm]; exact ⟨hm, h.2⟩
  · rw [if_neg hm, if_neg hm]; exact ⟨h.1, .inl (by omega)⟩

/-- What the walk keeps, with at most `n` entries still to pass: the column is done and its threshold found, or it is not
    done and `r` (from 1 to `n`) entries are still to be taken below the upper end, which 51 − `r` entries reach. -/
def Inv (n : ℕ) (f : Fin 512 → EReal) (lo : EReal) (d r : BitVec 32) (thr ub : EReal) : Prop :=
  51 ≤ cge f lo ∧ ((d = 1#32 ∧ IsThr f thr) ∨
    (d = 0#32 ∧ ∃ k : ℕ, r = BitVec.ofNat 32 k ∧ 1 ≤ k ∧ k ≤ n ∧ k + cge f ub = 51))

theorem Inv.mono {n n' : ℕ} {f : Fin 512 → EReal} {lo : EReal} {d r : BitVec 32} {thr ub : EReal} (hn : n ≤ n')
    (h : Inv n f lo d r thr ub) : Inv n' f lo d r thr ub := by
  refine ⟨h.1, h.2.imp id ?_⟩
  rintro ⟨hd, k, hr, h1, h2, h3⟩
  exact ⟨hd, k, hr, h1, h2.trans hn, h3⟩

/-- The done word is 0 or 1. -/
theorem Inv.word {n : ℕ} {f : Fin 512 → EReal} {lo : EReal} {d r : BitVec 32} {thr ub : EReal}
    (h : Inv n f lo d r thr ub) : d = 0#32 ∨ d = 1#32 := h.2.elim (fun h => .inr h.1) (fun h => .inl h.1)

/-- With nothing left to pass the column is done. -/
theorem Inv.zero {f : Fin 512 → EReal} {lo : EReal} {d r : BitVec 32} {thr ub : EReal}
    (h : Inv 0 f lo d r thr ub) : d ≠ 0#32 := by
  rcases h.2 with ⟨rfl, -⟩ | ⟨-, k, -, h1, h2, -⟩
  · decide
  · omega

/-- A column that is done has its threshold. -/
theorem Inv.done {n : ℕ} {f : Fin 512 → EReal} {lo : EReal} {d r : BitVec 32} {thr ub : EReal}
    (h : Inv n f lo d r thr ub) (hd : d ≠ 0#32) : thr = thrOf f := by
  rcases h.2 with ⟨-, ht⟩ | ⟨h0, -⟩
  · exact (thrOf_eq ht).symm
  · exact absurd h0 hd

/-- The words compared: below 2³¹ the signed order is the order of the naturals, -/
theorem sle_ofNat {a b : ℕ} (ha : a ≤ 512) (hb : b ≤ 512) :
    (BitVec.ofNat 32 a).sle (BitVec.ofNat 32 b) = decide (a ≤ b) := by
  simp only [BitVec.sle, BitVec.toInt_eq_toNat_cond, BitVec.toNat_ofNat]
  rw [Nat.mod_eq_of_lt (by omega : a < 2 ^ 32), Nat.mod_eq_of_lt (by omega : b < 2 ^ 32),
    if_pos (by omega), if_pos (by omega)]
  simp

/-- and the difference is the difference. -/
theorem sub_ofNat {a b : ℕ} (ha : a ≤ 512) (hb : b ≤ a) :
    BitVec.ofNat 32 a - BitVec.ofNat 32 b = BitVec.ofNat 32 (a - b) := by
  apply BitVec.eq_of_toNat_eq
  simp only [BitVec.toNat_sub, BitVec.toNat_ofNat]
  omega

/-- The walk's candidate: the greatest entry from the lower end up to below the upper end. -/
def mc (f : Fin 512 → EReal) (lo ub : EReal) : EReal := univ.sup fun t => if lo ≤ f t ∧ f t < ub then f t else ⊥

/-- Where more entries reach the lower end than the upper end, the candidate is an entry between them, and the entries that
    reach it are those that reach the upper end and those equal to it. -/
theorem mc_spec {f : Fin 512 → EReal} {lo ub : EReal} (h : cge f ub < cge f lo) :
    (∃ t, f t = mc f lo ub) ∧ cgt f (mc f lo ub) = cge f ub ∧ cge f (mc f lo ub) = cge f ub + ceq f (mc f lo ub)
      ∧ 1 ≤ ceq f (mc f lo ub) := by
  have hex : ∃ t, lo ≤ f t ∧ f t < ub := by
    by_contra hno
    push Not at hno
    have : cge f lo ≤ cge f ub := card_le_card fun t ht => by
      simp only [mem_filter, mem_univ, true_and] at ht ⊢; exact hno t ht
    omega
  have hle : ∀ t, lo ≤ f t → f t < ub → f t ≤ mc f lo ub := by
    intro t h1 h2
    have := le_sup (f := fun t => if lo ≤ f t ∧ f t < ub then f t else ⊥) (mem_univ t)
    rw [if_pos ⟨h1, h2⟩] at this
    exact this
  obtain ⟨t₀, h1, h2⟩ := hex
  have hmem : ∃ t, f t = mc f lo ub ∧ lo ≤ f t ∧ f t < ub := by
    obtain ⟨t, -, ht⟩ := exists_mem_eq_sup univ ⟨0, mem_univ _⟩ (fun t => if lo ≤ f t ∧ f t < ub then f t else ⊥)
    change mc f lo ub = _ at ht
    by_cases hc : lo ≤ f t ∧ f t < ub
    · rw [if_pos hc] at ht; exact ⟨t, ht.symm, hc⟩
    · rw [if_neg hc] at ht
      have := hle t₀ h1 h2
      rw [ht, le_bot_iff] at this
      exact ⟨t₀, by rw [ht, this], h1, h2⟩
  obtain ⟨t₁, ht₁, hl, hu⟩ := hmem
  have hgt : ∀ t, mc f lo ub < f t ↔ ub ≤ f t := by
    intro t
    constructor
    · intro h
      by_contra hn
      rw [not_le] at hn
      exact absurd (hle t ((hl.trans ht₁.le).trans h.le) hn) (not_le.mpr h)
    · intro h; rw [← ht₁]; exact lt_of_lt_of_le hu h
  refine ⟨⟨t₁, ht₁⟩, ?_, ?_, ?_⟩
  · unfold cgt cge; simp only [hgt]
  · unfold cge ceq
    rw [← card_union_of_disjoint]
    · congr 1
      ext t
      simp only [mem_filter, mem_univ, true_and, mem_union]
      rw [← hgt t, le_iff_lt_or_eq, eq_comm (a := f t)]
    · rw [disjoint_left]
      intro t ha hb
      simp only [mem_filter, mem_univ, true_and] at ha hb
      rw [← hgt t, hb] at ha
      exact lt_irrefl _ ha
  · unfold ceq
    exact card_pos.mpr ⟨t₁, by simp [ht₁]⟩

open Classical in
/-- One step of the walk on one column, in the words the kernel keeps. -/
theorem Inv.step {n : ℕ} {f : Fin 512 → EReal} {lo : EReal} {d r : BitVec 32} {thr ub : EReal}
    (h : Inv (n + 1) f lo d r thr ub) (hn : n + 1 ≤ 512) (cm : BitVec 32) (hcm : cm = BitVec.ofNat 32 (ceq f (mc f lo ub)))
    (take : Prop) (htake : take ↔ d = 0#32 ∧ r.sle cm = true) :
    Inv n f lo (if take then 1#32 else d) (if d = 0#32 ∧ ¬take then r - cm else r) (if take then mc f lo ub else thr)
      (if d = 0#32 ∧ ¬take then mc f lo ub else ub) := by
  refine ⟨h.1, ?_⟩
  rcases h.2 with ⟨rfl, ht⟩ | ⟨rfl, k, rfl, h1, h2, h3⟩
  · have : ¬take := fun hk => absurd (htake.mp hk).1 (by decide)
    left
    rw [if_neg this, if_neg this]
    exact ⟨rfl, ht⟩
  · have hlt : cge f ub < cge f lo := by have := h.1; omega
    obtain ⟨hex, hcgt, hcge, hpos⟩ := mc_spec hlt
    have hle := ceq_le f (mc f lo ub)
    have hk : take ↔ k ≤ ceq f (mc f lo ub) := by
      rw [htake, hcm, sle_ofNat (by omega) hle]; simp
    by_cases hc : k ≤ ceq f (mc f lo ub)
    · left
      rw [if_pos (hk.mpr hc), if_pos (hk.mpr hc)]
      exact ⟨rfl, hex, by omega, by omega⟩
    · right
      have hnt : ¬take := fun h => hc (hk.mp h)
      rw [if_neg hnt, if_pos ⟨rfl, hnt⟩, if_pos ⟨rfl, hnt⟩]
      refine ⟨rfl, k - ceq f (mc f lo ub), ?_, by omega, by omega, by omega⟩
      rw [hcm, sub_ofNat (by omega) (by omega)]

/-- The walk's start, from the halving's ends: `c` entries reach the upper end. -/
theorem Inv.init {f : Fin 512 → EReal} {lo hi : EReal} (h : Bis f lo hi) (d r : BitVec 32) (thr : EReal)
    (hr : r = 51#32 - BitVec.ofNat 32 (cge f hi)) (hd : d = if r.sle 0#32 then 1#32 else 0#32)
    (hthr : d = 1#32 → thr = hi) : Inv 51 f lo d r thr hi := by
  refine ⟨h.1, ?_⟩
  have hle := cge_le f hi
  by_cases hc : 51 ≤ cge f hi
  · have hs : r.sle 0#32 = true := by
      rw [hr]
      simp only [BitVec.sle, BitVec.toInt_eq_toNat_cond, BitVec.toNat_sub, BitVec.toNat_ofNat, decide_eq_true_eq]
      split <;> split <;> omega
    rw [if_pos hs] at hd
    left
    refine ⟨hd, ?_⟩
    rw [hthr hd]
    have hsup : hi = univ.sup f := h.2.resolve_left (by omega)
    refine ⟨?_, hc, ?_⟩
    · rw [hsup]; exact exists_sup f
    · rw [hsup, cgt_sup]; omega
  · have hr' : r = BitVec.ofNat 32 (51 - cge f hi) := by
      rw [hr]; exact sub_ofNat (a := 51) (by omega) (by omega)
    have hs : ¬ r.sle 0#32 = true := by
      rw [hr']
      have := sle_ofNat (a := 51 - cge f hi) (b := 0) (by omega) (by omega)
      rw [this]; simp; omega
    rw [if_neg hs] at hd
    right
    exact ⟨hd, 51 - cge f hi, hr', by omega, by omega, by omega⟩

end Cert.Proof.Thr

end
-- ==== Proof.Thr.Vec.lean ====
/-
  The kernel's search for the 51st largest score of each column, in the vectors it keeps: the lower and upper ends of the
  halving, the done words, the numbers still to take, the thresholds and the upper ends of the walk. Every statement is
  column by column (`Thr.Count`): the halving keeps `Bis`, the walk keeps `Inv`, and the loop's test is 1 exactly while
  some column of either head is not done.
-/
module

public import proofs.«01_k».proof.Proof.Thr.Count
public import proofs.«01_k».proof.Proof.Gen.KernelIdeal.Skeleton
public import Idealize.ShloMosaic.Lib.Pointwise
public import Idealize.ShloMosaic.Lib.IndicatorCount
public import Idealize.ShloMosaic.Lib.IdealHost
public import Idealize.ShloMosaic.Lib.Exec

@[expose] public section

set_option maxRecDepth 16384

noncomputable section

namespace Cert.Proof.Thr

open Cert.KernelIdeal Cert.KernelIdeal.Gen
open Idealize.ShloMosaic Idealize.ShloMosaic.TcCoe Idealize.ShloMosaic.Tactic
open Finset

/-- Column `l` of a square of scores. -/
def col (s : FVec Ideal S512x512 .f32) (l : Fin 512) : Fin 512 → EReal := fun t => s (ix2 t l)

/-! ## Words and numbers -/

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]
theorem ofBits_51 : Ideal.ofBits .f32 0x424C0000#32 = ((51 : ℕ) : ℝ) := by
  simp [Ideal.ofBits, Ideal.ieee]
  rw [← EReal.coe_mul]
  norm_num

/-- The sum of a condition's bits as numbers is the number of places it holds at. -/
theorem sum_bits (p : Fin 512 → Prop) [DecidablePred p] :
    (∑ t, (FloatOps.sitofp (F := Ideal) FTy.f32 (BitVec.setWidth 32 (BitVec.ofBool (decide (p t)))) : EReal))
      = (((univ.filter p).card : ℝ) : EReal) := by
  have h : ∀ t, (FloatOps.sitofp (F := Ideal) FTy.f32 (BitVec.setWidth 32 (BitVec.ofBool (decide (p t)))) : EReal)
      = ((if p t then (1 : ℝ) else 0 : ℝ) : EReal) := by
    intro t
    show ((((BitVec.setWidth 32 (BitVec.ofBool (decide (p t)))).toInt : ℤ) : ℝ) : EReal) = _
    by_cases hp : p t <;> simp [hp]
  rw [Finset.sum_congr rfl fun t _ => h t]
  have : ∀ S : Finset (Fin 512), (∑ t ∈ S, ((if p t then (1 : ℝ) else 0 : ℝ) : EReal))
      = ((∑ t ∈ S, (if p t then (1 : ℝ) else 0) : ℝ) : EReal) := by
    intro S
    induction S using Finset.induction_on with
    | empty => simp
    | insert a S ha ih => rw [sum_insert ha, sum_insert ha, ih, EReal.coe_add]
  rw [this, Finset.sum_boole]

/-- A count up to 512 read back as a word. -/
theorem fptosi_count (n : ℕ) (hn : n ≤ 512) :
    (FloatOps.fptosi (F := Ideal) (φ := .f32) 32 (((n : ℝ) : EReal))) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  rw [min_eq_right (by norm_num; omega), max_eq_right (by norm_num)]
  rfl

theorem fold_max_bot (f : Fin 512 → EReal) : univ.fold max ⊥ f = univ.sup f := rfl
theorem fold_min_top (f : Fin 512 → EReal) : univ.fold min ⊤ f = univ.inf f := rfl

/-! ## The halving -/

/-- The kernel's column maximum and minimum. -/
theorem pay26_apply (s : FVec Ideal S512x512 .f32) (l : Fin 512) : k0_pay26 s (ix2 0 l) = univ.sup (col s l) := by
  unfold k0_pay26
  pointwise
  rw [ofBits_ninf]; exact fold_max_bot _

theorem pay28_apply (s : FVec Ideal S512x512 .f32) (l : Fin 512) : k0_pay28 s (ix2 0 l) = univ.inf (col s l) := by
  unfold k0_pay28
  pointwise
  rw [ofBits_pinf]; exact fold_min_top _

/-- `Bis` at every column. -/
def VBis (s : FVec Ideal S512x512 .f32) (lo hi : FVec Ideal S1x512 .f32) : Prop :=
  ∀ l, Bis (col s l) (lo (ix2 0 l)) (hi (ix2 0 l))

theorem VBis.init (s : FVec Ideal S512x512 .f32) : VBis s (k0_pay28 s) (k0_pay26 s) := by
  intro l; rw [pay26_apply, pay28_apply]; exact Bis.init _

/-- One trip of the halving keeps it. -/
theorem VBis.step {s : FVec Ideal S512x512 .f32} {lo hi : FVec Ideal S1x512 .f32} (h : VBis s lo hi) :
    VBis s (k0_pay34 s lo hi) (k0_pay35 s lo hi) := by
  intro l
  have e : k0_pay32 s lo hi (ix2 0 l) = BitVec.ofBool (decide (51 ≤ cge (col s l) (k0_pay30 lo hi (ix2 0 l)))) := by
    unfold k0_pay32
    pointwise
    rw [sum_bits, ofBits_51]
    congr 1
    have : (((51 : ℕ) : ℝ) : EReal) ≤ (((univ.filter fun t => k0_pay30 lo hi (ix2 0 l) ≤ s (ix2 t l)).card : ℝ) : EReal)
        ↔ 51 ≤ cge (col s l) (k0_pay30 lo hi (ix2 0 l)) := by
      rw [EReal.coe_le_coe_iff, Nat.cast_le]; rfl
    exact decide_eq_decide.mpr this
  have h1 : k0_pay34 s lo hi (ix2 0 l) = if 51 ≤ cge (col s l) (k0_pay30 lo hi (ix2 0 l)) then k0_pay30 lo hi (ix2 0 l) else lo (ix2 0 l) := by
    show Scalar.select (k0_pay32 s lo hi (ix2 0 l)) _ _ = _
    rw [e]
    by_cases hc : 51 ≤ cge (col s l) (k0_pay30 lo hi (ix2 0 l)) <;> simp [hc, Scalar.select]
  have h2 : k0_pay35 s lo hi (ix2 0 l) = if 51 ≤ cge (col s l) (k0_pay30 lo hi (ix2 0 l)) then hi (ix2 0 l) else k0_pay30 lo hi (ix2 0 l) := by
    show Scalar.select (k0_pay32 s lo hi (ix2 0 l)) _ _ = _
    rw [e]
    by_cases hc : 51 ≤ cge (col s l) (k0_pay30 lo hi (ix2 0 l)) <;> simp [hc, Scalar.select]
  rw [h1, h2]
  exact (h l).step _

/-- The whole halving, of two heads at once, whatever the number of trips. -/
theorem VBis.fold {n : ℕ} (sA sB : FVec Ideal S512x512 .f32)
    (g : Fin n → FVec Ideal S1x512 .f32 × FVec Ideal S1x512 .f32 × FVec Ideal S1x512 .f32 × FVec Ideal S1x512 .f32 →
      FVec Ideal S1x512 .f32 × FVec Ideal S1x512 .f32 × FVec Ideal S1x512 .f32 × FVec Ideal S1x512 .f32)
    (hg : ∀ k a, g k a = (k0_pay34 sA a.1 a.2.1, k0_pay35 sA a.1 a.2.1, k0_pay34 sB a.2.2.1 a.2.2.2, k0_pay35 sB a.2.2.1 a.2.2.2)) :
    VBis sA (Scf.fold g (k0_pay28 sA, k0_pay26 sA, k0_pay28 sB, k0_pay26 sB)).1
        (Scf.fold g (k0_pay28 sA, k0_pay26 sA, k0_pay28 sB, k0_pay26 sB)).2.1
      ∧ VBis sB (Scf.fold g (k0_pay28 sA, k0_pay26 sA, k0_pay28 sB, k0_pay26 sB)).2.2.1
        (Scf.fold g (k0_pay28 sA, k0_pay26 sA, k0_pay28 sB, k0_pay26 sB)).2.2.2 := by
  rw [Scf.fold_eq]
  generalize List.finRange n = L
  have : ∀ a : FVec Ideal S1x512 .f32 × FVec Ideal S1x512 .f32 × FVec Ideal S1x512 .f32 × FVec Ideal S1x512 .f32,
      (VBis sA a.1 a.2.1 ∧ VBis sB a.2.2.1 a.2.2.2) →
      (VBis sA (L.foldl (fun a k => g k a) a).1 (L.foldl (fun a k => g k a) a).2.1
        ∧ VBis sB (L.foldl (fun a k => g k a) a).2.2.1 (L.foldl (fun a k => g k a) a).2.2.2) := by
    induction L with
    | nil => exact fun a h => h
    | cons k L ih =>
      intro a h
      rw [List.foldl_cons]
      apply ih
      rw [hg]
      exact ⟨h.1.step, h.2.step⟩
  exact this (k0_pay28 sA, k0_pay26 sA, k0_pay28 sB, k0_pay26 sB) (by dsimp only; exact ⟨VBis.init sA, VBis.init sB⟩)

/-! ## The walk -/

/-- `Inv` at every column. -/
def VInv (n : ℕ) (s : FVec Ideal S512x512 .f32) (lo : FVec Ideal S1x512 .f32) (d r : IVec S1x512 32)
    (thr ub : FVec Ideal S1x512 .f32) : Prop :=
  ∀ l, Inv n (col s l) (lo (ix2 0 l)) (d (ix2 0 l)) (r (ix2 0 l)) (thr (ix2 0 l)) (ub (ix2 0 l))

/-- The thresholds of a square of scores. -/
def thrVec (s : FVec Ideal S512x512 .f32) : FVec Ideal S1x512 .f32 := fun j => thrOf (col s (j 1))

theorem pay38_apply (s : FVec Ideal S512x512 .f32) (hi : FVec Ideal S1x512 .f32) (l : Fin 512) :
    k0_pay38 s hi (ix2 0 l) = BitVec.ofNat 32 (cge (col s l) (hi (ix2 0 l))) := by
  unfold k0_pay38
  pointwise
  rw [sum_bits]
  exact fptosi_count _ (cge_le (col s l) (hi (ix2 0 l)))

/-- The walk's start, from the halving's ends. -/
theorem VInv.init {s : FVec Ideal S512x512 .f32} {lo hi : FVec Ideal S1x512 .f32} (h : VBis s lo hi) :
    VInv 51 s lo (k0_pay42 (k0_pay38 s hi)) (k0_pay40 (k0_pay38 s hi)) (k0_pay44 lo hi (k0_pay38 s hi)) hi := by
  intro l
  have hd : k0_pay42 (k0_pay38 s hi) (ix2 0 l) = if (k0_pay40 (k0_pay38 s hi) (ix2 0 l)).sle 0#32 then 1#32 else 0#32 := by
    unfold k0_pay42
    pointwise
    show BitVec.setWidth 32 (BitVec.ofBool (BitVec.sle _ _)) = _
    by_cases hc : (k0_pay40 (k0_pay38 s hi) (ix2 0 l)).sle 0#32 = true
    · rw [hc]; rfl
    · rw [if_neg hc, Bool.eq_false_iff.mpr hc]; rfl
  refine Inv.init (h l) _ _ _ ?_ hd ?_
  · show IntOp.subi 51#32 (k0_pay38 s hi (ix2 0 l)) = _
    rw [pay38_apply]; rfl
  · intro h1
    show Scalar.select (IntOp.cmpi .eq (k0_pay42 (k0_pay38 s hi) (ix2 0 l)) 1#32) (hi (ix2 0 l)) (lo (ix2 0 l)) = _
    rw [h1]; rfl

theorem pay50_apply (lo : FVec Ideal S1x512 .f32) (s : FVec Ideal S512x512 .f32) (ub : FVec Ideal S1x512 .f32) (l : Fin 512) :
    k0_pay50 lo s ub (ix2 0 l) = mc (col s l) (lo (ix2 0 l)) (ub (ix2 0 l)) := by
  unfold k0_pay50
  pointwise
  rw [ofBits_ninf, fold_max_bot]
  unfold mc
  refine congrArg (univ.sup) (funext fun t => ?_)
  show Scalar.select (IntOp.andi (BitVec.ofBool (decide (lo (ix2 0 l) ≤ s (ix2 t l)))) (BitVec.ofBool (decide (s (ix2 t l) < ub (ix2 0 l))))) (s (ix2 t l)) ⊥
    = if lo (ix2 0 l) ≤ s (ix2 t l) ∧ s (ix2 t l) < ub (ix2 0 l) then s (ix2 t l) else ⊥
  by_cases h1 : lo (ix2 0 l) ≤ s (ix2 t l) <;> by_cases h2 : s (ix2 t l) < ub (ix2 0 l) <;>
    simp [h1, h2, Scalar.select, IntOp.andi]

theorem pay51_apply (lo : FVec Ideal S1x512 .f32) (s : FVec Ideal S512x512 .f32) (ub : FVec Ideal S1x512 .f32) (l : Fin 512) :
    k0_pay51 lo s ub (ix2 0 l) = BitVec.ofNat 32 (ceq (col s l) (mc (col s l) (lo (ix2 0 l)) (ub (ix2 0 l)))) := by
  rw [← pay50_apply]
  unfold k0_pay51
  pointwise
  rw [IndicatorCount.fold_addi_setWidth_eq_card]
  congr 1
  unfold ceq
  congr 1
  ext t
  simp only [mem_filter, mem_univ, true_and]
  by_cases hc : s (ix2 t l) = k0_pay50 lo s ub (ix2 0 l) <;> simp [hc, col]

theorem andi_one (a b : BitVec 1) : IntOp.andi a b = 1#1 ↔ a = 1#1 ∧ b = 1#1 := by revert a b; decide
theorem xori_one (a : BitVec 1) : IntOp.xori a 1#1 = 1#1 ↔ ¬ a = 1#1 := by revert a; decide

theorem pay52_one (d : IVec S1x512 32) (j : S1x512.Idx) : k0_pay52 d j = 1#1 ↔ d j = 0#32 := by
  show BitVec.ofBool (d j == 0#32) = 1#1 ↔ _
  by_cases h : d j = 0#32
  · simp [h]
  · rw [beq_eq_false_iff_ne.mpr h]; simp [h]

theorem pay53_one (lo : FVec Ideal S1x512 .f32) (s : FVec Ideal S512x512 .f32) (d r : IVec S1x512 32)
    (ub : FVec Ideal S1x512 .f32) (j : S1x512.Idx) :
    k0_pay53 lo s d r ub j = 1#1 ↔ d j = 0#32 ∧ (r j).sle (k0_pay51 lo s ub j) = true := by
  show IntOp.andi (k0_pay52 d j) (BitVec.ofBool ((r j).sle (k0_pay51 lo s ub j))) = 1#1 ↔ _
  rw [andi_one, pay52_one]
  by_cases h : (r j).sle (k0_pay51 lo s ub j) = true
  · simp [h]
  · rw [Bool.not_eq_true] at h; simp [h]

theorem pay56_one (lo : FVec Ideal S1x512 .f32) (s : FVec Ideal S512x512 .f32) (d r : IVec S1x512 32)
    (ub : FVec Ideal S1x512 .f32) (j : S1x512.Idx) :
    k0_pay56 lo s d r ub j = 1#1 ↔ d j = 0#32 ∧ ¬ k0_pay53 lo s d r ub j = 1#1 := by
  show IntOp.andi (k0_pay52 d j) (IntOp.xori (k0_pay53 lo s d r ub j) 1#1) = 1#1 ↔ _
  rw [andi_one, pay52_one, xori_one]

/-- One step of the walk keeps `VInv` with one entry fewer to pass (the first head's vectors). -/
theorem VInv.stepA {n : ℕ} {s : FVec Ideal S512x512 .f32} {lo : FVec Ideal S1x512 .f32} {d r : IVec S1x512 32}
    {thr ub : FVec Ideal S1x512 .f32} (h : VInv (n + 1) s lo d r thr ub) (hn : n + 1 ≤ 512) :
    VInv n s lo (k0_pay55 lo s d r ub) (k0_pay57 lo s d r ub) (k0_pay54 lo s d r thr ub) (k0_pay58 lo s d r ub) := by
  intro l
  have hs := (h l).step hn (k0_pay51 lo s ub (ix2 0 l)) (pay51_apply lo s ub l) (k0_pay53 lo s d r ub (ix2 0 l) = 1#1)
    (pay53_one lo s d r ub (ix2 0 l))
  rw [← pay50_apply] at hs
  have e1 : k0_pay55 lo s d r ub (ix2 0 l) = if k0_pay53 lo s d r ub (ix2 0 l) = 1#1 then 1#32 else d (ix2 0 l) := rfl
  have e2 : k0_pay57 lo s d r ub (ix2 0 l) = if k0_pay56 lo s d r ub (ix2 0 l) = 1#1 then r (ix2 0 l) - k0_pay51 lo s ub (ix2 0 l) else r (ix2 0 l) := rfl
  have e3 : k0_pay54 lo s d r thr ub (ix2 0 l) = if k0_pay53 lo s d r ub (ix2 0 l) = 1#1 then k0_pay50 lo s ub (ix2 0 l) else thr (ix2 0 l) := rfl
  have e4 : k0_pay58 lo s d r ub (ix2 0 l) = if k0_pay56 lo s d r ub (ix2 0 l) = 1#1 then k0_pay50 lo s ub (ix2 0 l) else ub (ix2 0 l) := rfl
  rw [e1, e2, e3, e4]
  simp only [pay56_one]
  convert hs

/-- The same of the second head's vectors. -/
theorem VInv.stepB {n : ℕ} {s : FVec Ideal S512x512 .f32} {lo : FVec Ideal S1x512 .f32} {d r : IVec S1x512 32}
    {thr ub : FVec Ideal S1x512 .f32} (h : VInv (n + 1) s lo d r thr ub) (hn : n + 1 ≤ 512) :
    VInv n s lo (k0_pay64 lo s d r ub)
      (k0_pay7 r (k0_pay60 lo s ub) (k0_pay61 d) (k0_pay65 lo s d r ub))
      (k0_pay63 lo s d r thr ub)
      (k0_pay8 ub (k0_pay59 lo s ub) (k0_pay61 d) (k0_pay65 lo s d r ub)) :=
  h.stepA hn

/-- The loop's test. -/
def test (dA dB : IVec S1x512 32) : BitVec 1 :=
  Scalar.cmpi .eq (Scalar.minsi (extractAt ![0, 0, 0] (k0_pay4 dA) inpos_S1x1x1_p0_0_0)
    (extractAt ![0, 0, 0] (k0_pay5 dB) inpos_S1x1x1_p0_0_0)) 0#32

/-- Folding the least of words that are 0 or 1, from a word that is 1 or more: 0 exactly where a 0 is. -/
theorem fold_minsi {ι : Type} (S : Finset ι) (f : ι → BitVec 32) (hf : ∀ i, f i = 0#32 ∨ f i = 1#32) :
    (S.fold IntOp.minsi 2147483647#32 f = 0#32 ∧ ∃ i ∈ S, f i = 0#32) ∨
      ((S.fold IntOp.minsi 2147483647#32 f = 1#32 ∨ S.fold IntOp.minsi 2147483647#32 f = 2147483647#32) ∧ ∀ i ∈ S, f i ≠ 0#32) := by
  classical
  induction S using Finset.induction_on with
  | empty => right; exact ⟨.inr rfl, by simp⟩
  | insert a S ha ih =>
    rw [Finset.fold_insert ha]
    rcases hf a with h0 | h1
    · left
      refine ⟨?_, a, mem_insert_self _ _, h0⟩
      rw [h0]
      rcases ih with ⟨e, -⟩ | ⟨e | e, -⟩ <;> rw [e] <;> decide
    · rcases ih with ⟨e, i, hi, h⟩ | ⟨e, h⟩
      · left
        refine ⟨?_, i, mem_insert_of_mem hi, h⟩
        rw [e, h1]; decide
      · right
        refine ⟨.inl ?_, ?_⟩
        · rw [h1]; rcases e with e | e <;> rw [e] <;> decide
        · intro i hi
          rcases mem_insert.mp hi with rfl | hi
          · rw [h1]; decide
          · exact h i hi

theorem least (d : IVec S1x512 32) (hd : ∀ l, d (ix2 0 l) = 0#32 ∨ d (ix2 0 l) = 1#32) :
    (extractAt ![0, 0, 0] (k0_pay4 d) inpos_S1x1x1_p0_0_0 = 0#32 ∧ ∃ l, d (ix2 0 l) = 0#32) ∨
      ((extractAt ![0, 0, 0] (k0_pay4 d) inpos_S1x1x1_p0_0_0 = 1#32
        ∨ extractAt ![0, 0, 0] (k0_pay4 d) inpos_S1x1x1_p0_0_0 = 2147483647#32) ∧ ∀ l, d (ix2 0 l) ≠ 0#32) := by
  have e : extractAt ![0, 0, 0] (k0_pay4 d) inpos_S1x1x1_p0_0_0
      = Finset.fold IntOp.minsi (2147483647#32) (fun x : Fin 1 × Fin 512 => d (ix2 0 x.2)) Finset.univ := by
    unfold k0_pay4
    pointwise
  rw [e]
  rcases fold_minsi univ (fun x : Fin 1 × Fin 512 => d (ix2 0 x.2)) (fun x => hd x.2) with ⟨h, i, -, hi⟩ | ⟨h, hi⟩
  · exact .inl ⟨h, i.2, hi⟩
  · exact .inr ⟨h, fun l => hi (0, l) (mem_univ _)⟩

/-- The test is 1 exactly while some column of either head is not done. -/
theorem test_iff (dA dB : IVec S1x512 32) (hA : ∀ l, dA (ix2 0 l) = 0#32 ∨ dA (ix2 0 l) = 1#32)
    (hB : ∀ l, dB (ix2 0 l) = 0#32 ∨ dB (ix2 0 l) = 1#32) :
    test dA dB = 1#1 ↔ (∃ l, dA (ix2 0 l) = 0#32) ∨ ∃ l, dB (ix2 0 l) = 0#32 := by
  unfold test
  have hB' := least dB hB
  rw [show k0_pay4 dB = k0_pay5 dB from rfl] at hB'
  rcases least dA hA with ⟨eA, hA⟩ | ⟨eA, hA⟩
  · refine ⟨fun _ => .inl hA, fun _ => ?_⟩
    rcases hB' with ⟨eB, -⟩ | ⟨eB | eB, -⟩ <;> rw [eA, eB] <;> decide
  · rcases hB' with ⟨eB, hB⟩ | ⟨eB, hB⟩
    · refine ⟨fun _ => .inr hB, fun _ => ?_⟩
      rcases eA with eA | eA <;> rw [eA, eB] <;> decide
    · constructor
      · intro h; exfalso; revert h
        rcases eA with eA | eA <;> rcases eB with eB | eB <;> rw [eA, eB] <;> decide
      · rintro (⟨l, h⟩ | ⟨l, h⟩)
        · exact absurd h (hA l)
        · exact absurd h (hB l)

/-- With every column done the thresholds are the 51st largest scores. -/
theorem VInv.done {n : ℕ} {s : FVec Ideal S512x512 .f32} {lo : FVec Ideal S1x512 .f32} {d r : IVec S1x512 32}
    {thr ub : FVec Ideal S1x512 .f32} (h : VInv n s lo d r thr ub) (hd : ∀ l, d (ix2 0 l) ≠ 0#32) : thr = thrVec s := by
  funext j
  obtain ⟨a, l, rfl⟩ : ∃ a l, j = ix2 a l := ⟨_, _, eq_ix2 j⟩
  obtain rfl : a = 0 := Subsingleton.elim _ _
  exact (h l).done (hd l)

end Cert.Proof.Thr

end
-- ==== Proof.KI.Call.lean ====
/-
  The kernel's walk as a label: what it carries, what it is said to return, and the rule for calling it.
-/
module

public import proofs.«01_k».proof.Proof.KI.Runs
public import proofs.«01_k».proof.Proof.Thr.Vec

@[expose] public section

set_option maxRecDepth 16384
set_option maxHeartbeats 2000000

noncomputable section

namespace Cert.Proof.KI

open Cert.KernelIdeal Cert.KernelIdeal.Gen Cert.Proof.Thr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The kernel's variants: the naturals, the rounds of the walk still to run at most. -/
abbrev 𝒱₀ : Variants := Variants.nat

/-- What the walk carries and returns. -/
abbrev WalkSt : Type := IVec S1x512 32 × IVec S1x512 32 × FVec Ideal S1x512 .f32 × FVec Ideal S1x512 .f32
  × IVec S1x512 32 × IVec S1x512 32 × FVec Ideal S1x512 .f32 × FVec Ideal S1x512 .f32

/-- The label's specification: it returns both heads' thresholds. -/
def spec (sA sB : FVec Ideal S512x512 .f32) : sWPT 𝕄 WalkSt := do
  let r ← sWPT.arbitrary
  sWPT.assume (r.2.2.1 = thrVec sA ∧ r.2.2.2.2.2.2.1 = thrVec sB)
  pure r

theorem spec_apply (sA sB : FVec Ideal S512x512 .f32) (K : WalkSt → sProp 𝕄) :
    spec sA sB K = iprop(∀ r : WalkSt, ⌜r.2.2.1 = thrVec sA ∧ r.2.2.2.2.2.2.1 = thrVec sB⌝ -∗ K r) := rfl

/-- The label's body is the printed loop. -/
theorem defs_walk (i : grid0.Coords) (loA : FVec Ideal S1x512 .f32) (sA : FVec Ideal S512x512 .f32) (loB : FVec Ideal S1x512 .f32)
    (sB : FVec Ideal S512x512 .f32) (dA rA : IVec S1x512 32) (thrA ubA : FVec Ideal S1x512 .f32) (dB rB : IVec S1x512 32)
    (thrB ubB : FVec Ideal S1x512 .f32) :
    defs₀ (F := Ideal) .tc 1 ⟨i, loA, sA, loB, sB, dA, rA, thrA, ubA, dB, rB, thrB, ubB⟩
      = cc0_while1_skel i loA sA loB sB dA rA thrA ubA dB rB thrB ubB := by
  unfold defs₀; rw [Defs.onTc_tc, ← cc0_while1_eq_skeleton]

/-- The label's operands. -/
abbrev walkArgs (i : grid0.Coords) (loA : FVec Ideal S1x512 .f32) (sA : FVec Ideal S512x512 .f32) (loB : FVec Ideal S1x512 .f32)
    (sB : FVec Ideal S512x512 .f32) (dA rA : IVec S1x512 32) (thrA ubA : FVec Ideal S1x512 .f32) (dB rB : IVec S1x512 32)
    (thrB ubB : FVec Ideal S1x512 .f32) : (Λ₀ Ideal).Args 1 :=
  ⟨i, loA, sA, loB, sB, dA, rA, thrA, ubA, dB, rB, thrB, ubB⟩

/-- The label. -/
abbrev walkL : (Λ₀ Ideal).Label := 1

/-- Calling the label, once its body is known to meet the specification at a variant below the caller's. -/
theorem wp_walk (c : Dev nD) (bd : Option ℕ) (E : Set ℕ) (S : sWPT 𝕄 ((Λ₀ Ideal).Result walkL)) (a : (Λ₀ Ideal).Args walkL) (v : ℕ)
    (hv : ∀ u ∈ bd, v < u)
    (hS : ∀ K : (Λ₀ Ideal).Result walkL → sProp 𝕄, S K ⊢ wp frame (wpE (defs₀ (F := Ideal)) 𝒱₀ (c : Thread nD τ) (some v)) E (defs₀ (F := Ideal) .tc walkL a) K)
    {α : Type} (k : (Λ₀ Ideal).Result walkL → Prog (TpuEff nD τ sig (Elt Ideal) (Λ₀ Ideal) .tc) α) (Q : α → sProp 𝕄) :
    S (fun r => wp frame (wpE (defs₀ (F := Ideal)) 𝒱₀ (c : Thread nD τ) bd) E (k r) Q)
      ⊢ wp frame (wpE (defs₀ (F := Ideal)) 𝒱₀ (c : Thread nD τ) bd) E (Prog.op (TpuEff.call (Λ := Λ₀ Ideal) walkL a) k) Q :=
  wp_call_spec (𝒱 := 𝒱₀) (c := (c : Thread nD τ)) (bd := bd) (E := E) (ℓ := walkL) (a := a) (k := k) (S := S) (v := v) (hv := hv) (hS := hS)

end Cert.Proof.KI

end
-- ==== Proof.KI.While.lean ====
/-
  The kernel's walk as a label: called on vectors that keep `VInv` for the two heads, it ends and returns the thresholds of
  both (`spec`), by induction on the number of scores still to be taken — each round of the walk takes at least one in every
  column that is not done, and the walk starts with at most 51 to take.
-/
module

public import proofs.«01_k».proof.Proof.KI.Call
public import proofs.«01_k».proof.Proof.Thr.Vec

@[expose] public section

set_option maxRecDepth 16384
set_option maxHeartbeats 2000000

noncomputable section

namespace Cert.Proof.KI

open Cert.KernelIdeal Cert.KernelIdeal.Gen Cert.Proof.Thr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The body of the label meets the specification: by induction on the scores still to be taken at most. -/
theorem spec_le (c : Dev nD) (E : Set ℕ) (i : grid0.Coords) (loA loB : FVec Ideal S1x512 .f32) (sA sB : FVec Ideal S512x512 .f32) :
    ∀ k, k ≤ 51 → ∀ (dA rA : IVec S1x512 32) (thrA ubA : FVec Ideal S1x512 .f32) (dB rB : IVec S1x512 32) (thrB ubB : FVec Ideal S1x512 .f32),
      VInv k sA loA dA rA thrA ubA → VInv k sB loB dB rB thrB ubB → ∀ K : WalkSt → sProp 𝕄,
      spec sA sB K ⊢ wp frame (wpE (defs₀ (F := Ideal)) 𝒱₀ (c : Thread nD τ) (some k)) E
        (defs₀ (F := Ideal) .tc walkL (walkArgs i loA sA loB sB dA rA thrA ubA dB rB thrB ubB)) K := by
  intro k
  induction k with
  | zero =>
    intro hk dA rA thrA ubA dB rB thrB ubB hA hB K
    rw [spec_apply, defs_walk]
    unfold cc0_while1_skel
    have htest : ¬ test dA dB = 1#1 := by
      rw [test_iff dA dB (fun l => (hA l).word) (fun l => (hB l).word)]
      rintro (⟨l, h⟩ | ⟨l, h⟩)
      exacts [(hA l).zero h, (hB l).zero h]
    unfold test at htest
    simp only [htest, ↓reduceIte, Prog.pure_eq_ret]
    iintro Hk
    rw [wp_ret]
    imodintro
    iapply Hk
    ipureintro
    exact ⟨hA.done fun l => (hA l).zero, hB.done fun l => (hB l).zero⟩
  | succ k ih =>
    intro hk dA rA thrA ubA dB rB thrB ubB hA hB K
    have hk1 : k ≤ 51 := Nat.le_of_succ_le hk
    have hk2 : k + 1 ≤ 512 := hk.trans (by decide)
    have hd := mt (test_iff dA dB (fun l => (hA l).word) (fun l => (hB l).word)).mpr
    have hA' := hA.stepA hk2
    have hB' := hB.stepB hk2
    have hih := ih hk1 _ _ _ _ _ _ _ _ hA' hB'
    rw [spec_apply, defs_walk]
    unfold cc0_while1_skel
    rcases Classical.em (test dA dB = 1#1) with htest | htest
    · unfold test at htest
      simp only [htest, ↓reduceIte, Prog.lift, Prog.bind_op, Prog.bind_ret, Prog.pure_eq_ret, k0_part5_eq_skeleton, k0_part5_skel]
      refine BIBase.Entails.trans ?_ (wp_walk c (some (k + 1)) E (spec sA sB) _ k (fun u hu => by cases hu; exact Nat.lt_succ_self k) hih _ _)
      rw [spec_apply]
      iintro Hk %r %hr
      rw [wp_ret]
      imodintro
      iapply Hk
      ipureintro
      exact hr
    · have hd := hd htest
      unfold test at htest
      simp only [htest, ↓reduceIte, Prog.pure_eq_ret]
      iintro Hk
      rw [wp_ret]
      imodintro
      iapply Hk
      ipureintro
      exact ⟨hA.done fun l h => hd (.inl ⟨l, h⟩), hB.done fun l h => hd (.inr ⟨l, h⟩)⟩

/-- The second head's vectors before the walk are the first head's, of the second head's scores. -/
theorem initB {v7 : FVec Ideal S512x768 .f32} {v56 v61 : FVec Ideal S64x768 .f32} {v70 v75 : FVec Ideal S64 .f32}
    {v96 : Vec Ideal S512x512 .f32} {lo hi : FVec Ideal S1x512 .f32} (h : VBis (k0_pay25 v7 v56 v61 v70 v75 v96) lo hi) :
    VInv 51 (k0_pay25 v7 v56 v61 v70 v75 v96) lo (k0_pay43 (k0_pay39 v7 v56 v61 v70 v75 v96 hi))
      (k0_pay41 (k0_pay39 v7 v56 v61 v70 v75 v96 hi)) (k0_pay45 lo hi (k0_pay39 v7 v56 v61 v70 v75 v96 hi)) hi :=
  VInv.init h

/-- Calling the label from the kernel's body, on vectors with at most 51 scores to take in every column: it returns both
    heads' thresholds, whatever else it returns. -/
theorem wp_start (c : Dev nD) (E : Set ℕ) (i : grid0.Coords) (loA loB : FVec Ideal S1x512 .f32) (sA sB : FVec Ideal S512x512 .f32)
    (dA rA : IVec S1x512 32) (thrA ubA : FVec Ideal S1x512 .f32) (dB rB : IVec S1x512 32) (thrB ubB : FVec Ideal S1x512 .f32)
    {α : Type} (k : (Λ₀ Ideal).Result walkL → Prog (TpuEff nD τ sig (Elt Ideal) (Λ₀ Ideal) .tc) α) (Q : α → sProp 𝕄)
    (hA : VInv 51 sA loA dA rA thrA ubA) (hB : VInv 51 sB loB dB rB thrB ubB) :
    spec sA sB (fun r => wp frame (wpE (defs₀ (F := Ideal)) 𝒱₀ (c : Thread nD τ) none) E (k r) Q)
      ⊢ wp frame (wpE (defs₀ (F := Ideal)) 𝒱₀ (c : Thread nD τ) none) E
          (Prog.op (TpuEff.call (Λ := Λ₀ Ideal) walkL (walkArgs i loA sA loB sB dA rA thrA ubA dB rB thrB ubB)) k) Q :=
  wp_walk c none E (spec sA sB) (walkArgs i loA sA loB sB dA rA thrA ubA dB rB thrB ubB) 51 (fun u hu => nomatch hu)
    (spec_le c E i loA loB sA sB 51 le_rfl dA rA thrA ubA dB rB thrB ubB hA hB) k Q

end Cert.Proof.KI

end
-- ==== Proof.KI.RunA.lean ====
/-
  The body's run at the first point of a batch.
-/
module

public import proofs.«01_k».proof.Proof.KI.While

@[expose] public section

-- the long axes of the blocks need it
set_option maxRecDepth 16384

noncomputable section

namespace Cert.Proof.KI

open Cert.KernelIdeal Cert.KernelIdeal.Gen Cert.Proof.Thr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- What the body stores at the first point of a batch (case A), with the proof that it runs to its end there: the inputs' buffers
    as they were, the scratch, which it fills, with its store written, the output with its store written. -/
noncomputable def kernelRun0_A (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) :
    Σ' (L6 : List (View.Piece (Elt Ideal) S1x512x768 .f32)), { LS0 : List (View.Piece (Elt Ideal) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Ideal) f L6) ∗ (∃ f, arg9.view.loc (c : Thread nD τ) ↦[arg9.view.set]{fullShare} arg9.view.writes (Elt Ideal) f LS0)) -∗ K ⟨⟩))
          ⊢ wp frame (wpE (defs₀ (F := Ideal)) 𝒱₀ c none) E (cc0__body i arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    iapply (wp_start c E i _ _ _ _ _ _ _ _ _ _ _ _ _ _ ?hA ?hB)
    case hA => exact VInv.init (VBis.fold _ _ _ (fun _ _ => rfl)).1
    case hB => exact initB (VBis.fold _ (k0_pay25 _ _ _ _ _ _) _ (fun _ _ => rfl)).2
    rw [spec_apply]
    iintro %r %hr
    obtain ⟨a, b, t, d, e, f, t', h⟩ := r
    obtain ⟨rfl, rfl⟩ := hr
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Proof.KI

end
-- ==== Proof.KI.RunB.lean ====
/-
  The body's run at a later point of a batch.
-/
module

public import proofs.«01_k».proof.Proof.KI.RunA

@[expose] public section

-- the long axes of the blocks need it
set_option maxRecDepth 16384

noncomputable section

namespace Cert.Proof.KI

open Cert.KernelIdeal Cert.KernelIdeal.Gen Cert.Proof.Thr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- What the body stores at any other point of a batch (case B), with the proof that it runs to its end there: the inputs' buffers
    as they were, the scratch as it was, the output, which it reads first, with its store written. -/
noncomputable def kernelRun0_B (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : ¬cond0_0 i) (hc1 : ¬cond0_1 i) (hc2 : cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (xo6 : Vec Ideal S1x512x768 .f32) (xs0 : Vec Ideal S512x512 .f32) :
    Σ' (L6 : List (View.Piece (Elt Ideal) S1x512x768 .f32)), { LS0 : List (View.Piece (Elt Ideal) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Ideal) f L6) ∗ owns (c : Thread nD τ) arg9 fullShare xs0) -∗ K ⟨⟩))
          ⊢ wp frame (wpE (defs₀ (F := Ideal)) 𝒱₀ c none) E (cc0__body i arg2 harg2 arg3 harg3 arg4 harg4 arg5 harg5 arg6 harg6 arg7 harg7 arg8 harg8 arg9 harg9) K } := by
  refine ⟨?_, [], fun E K => ?run⟩
  case run =>
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | sl_exact hc0 | sl_exact hc1 | sl_exact hc2)
    iapply (wp_start c E i _ _ _ _ _ _ _ _ _ _ _ _ _ _ ?hA ?hB)
    case hA => exact VInv.init (VBis.fold _ _ _ (fun _ _ => rfl)).1
    case hB => exact initB (VBis.fold _ (k0_pay25 _ _ _ _ _ _) _ (fun _ _ => rfl)).2
    rw [spec_apply]
    iintro %r %hr
    obtain ⟨a, b, t, d, e, f, t', h⟩ := r
    obtain ⟨rfl, rfl⟩ := hr
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.Proof.KI

end
-- ==== Proof.KI.Frame.lean ====
/-
  The idealised kernel's frame: what each point leaves, the call's data, the body at every point, the run.
-/
module

public import proofs.«01_k».proof.Proof.KI.RunB
public import Idealize.ShloMosaic.Lib.Claim

@[expose] public section

-- the long axes of the blocks need it
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- What case A stores into the output covers its block. -/
theorem cover0_A_6 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (y : S1x512x768.Idx) :
    ∃ pc ∈ (kernelRun0_A c i arg2 harg2 arg3 harg3 arg4 harg4 arg5 harg5 arg6 harg6 arg7 harg7 arg8 harg8 arg9 harg9 hc0 hc1 hc2 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4 x5).1 S1x512x768.size (by sl_kernel_rfl) y

/-- What case A leaves in the output's buffer. -/
def out0_A_6 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) : Vec Ideal S1x512x768 .f32 :=
  VO0_6.read (Elt Ideal) (VO0_6.writes (Elt Ideal) VO0_6.junk (kernelRun0_A c i arg2 harg2 arg3 harg3 arg4 harg4 arg5 harg5 arg6 harg6 arg7 harg7 arg8 harg8 arg9 harg9 hc0 hc1 hc2 x0 x1 x2 x3 x4 x5).1)

/-- What case A stores into the scratch covers it. -/
theorem scover0_A_0 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (y : S512x512.Idx) :
    ∃ pc ∈ (kernelRun0_A c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4 x5).2.1 S512x512.size (by sl_kernel_rfl) y

/-- What case A leaves in the scratch. -/
def sout0_A_0 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) : Vec Ideal S512x512 .f32 :=
  VS0_0.read (Elt Ideal) (VS0_0.writes (Elt Ideal) VS0_0.junk (kernelRun0_A c i arg2 harg2 arg3 harg3 arg4 harg4 arg5 harg5 arg6 harg6 arg7 harg7 arg8 harg8 arg9 harg9 hc0 hc1 hc2 x0 x1 x2 x3 x4 x5).2.1)

/-- What case B stores into the output covers its block. -/
theorem cover0_B_6 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : ¬cond0_0 i) (hc1 : ¬cond0_1 i) (hc2 : cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (xo6 : Vec Ideal S1x512x768 .f32) (xs0 : Vec Ideal S512x512 .f32) (y : S1x512x768.Idx) :
    ∃ pc ∈ (kernelRun0_B c i arg2 harg2 arg3 harg3 arg4 harg4 arg5 harg5 arg6 harg6 arg7 harg7 arg8 harg8 arg9 harg9 hc0 hc1 hc2 x0 x1 x2 x3 x4 x5 xo6 xs0).1, y ∈ pc.1.set :=
  View.cover_of_tiledL (kernelRun0_B c i arg2 harg2 arg3 harg3 arg4 harg4 arg5 harg5 arg6 harg6 arg7 harg7 arg8 harg8 arg9 harg9 hc0 hc1 hc2 x0 x1 x2 x3 x4 x5 xo6 xs0).1 S1x512x768.size (by sl_kernel_rfl) y

/-- What case B leaves in the output's buffer. -/
def out0_B_6 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : ¬cond0_0 i) (hc1 : ¬cond0_1 i) (hc2 : cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (xo6 : Vec Ideal S1x512x768 .f32) (xs0 : Vec Ideal S512x512 .f32) : Vec Ideal S1x512x768 .f32 :=
  VO0_6.read (Elt Ideal) (VO0_6.writes (Elt Ideal) VO0_6.junk (kernelRun0_B c i arg2 harg2 arg3 harg3 arg4 harg4 arg5 harg5 arg6 harg6 arg7 harg7 arg8 harg8 arg9 harg9 hc0 hc1 hc2 x0 x1 x2 x3 x4 x5 xo6 xs0).1)

/-- Case B leaves the scratch as it was. -/
def sout0_B_0 (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : ¬cond0_0 i) (hc1 : ¬cond0_1 i) (hc2 : cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (xo6 : Vec Ideal S1x512x768 .f32) (xs0 : Vec Ideal S512x512 .f32) : Vec Ideal S512x512 .f32 := xs0

/-! ## What the outputs hold after each point -/

/-- What the output's buffer and the scratch hold after the body has run at position `n`: at the first point of a batch what
    case A leaves, at any other what case B leaves over the contents after `n - 1`. -/
def outsAt0 (c : Dev nD) : (n : ℕ) → n < (cfg0 (F := Ideal)).N → Vec Ideal S1x512x768 .f32 × Vec Ideal S512x512 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩))
  | n + 1, hn =>
    if h0 : (n + 1) % 6 = 0 then
      if h1 : (n + 1) % 6 = 0 then
        if h2 : 1 ≤ (n + 1) % 6 then
          False.elim (by have hN : n + 1 < 72 := lt_of_lt_of_eq hn (show (cfg0 (F := Ideal)).N = 72 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩))
      else
        False.elim (by have hN : n + 1 < 72 := lt_of_lt_of_eq hn (show (cfg0 (F := Ideal)).N = 72 from N_0); omega)
    else
      if h1 : (n + 1) % 6 = 0 then
        False.elim (by have hN : n + 1 < 72 := lt_of_lt_of_eq hn (show (cfg0 (F := Ideal)).N = 72 from N_0); omega)
      else
        if h2 : 1 ≤ (n + 1) % 6 then
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (outsAt0 c n (Nat.lt_of_succ_lt hn)).1 (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (outsAt0 c n (Nat.lt_of_succ_lt hn)).1 (outsAt0 c n (Nat.lt_of_succ_lt hn)).2)
        else
          False.elim (by have hN : n + 1 < 72 := lt_of_lt_of_eq hn (show (cfg0 (F := Ideal)).N = 72 from N_0); omega)

/-- `outsAt0` at a point of case A: that case's contents. -/
theorem outsAt0_A (c : Dev nD) (t : Fin (cfg0 (F := Ideal)).N) (h0 : t.val % 6 = 0) (h1 : t.val % 6 = 0) (h2 : ¬1 ≤ t.val % 6) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (X0_5 m c t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (X0_5 m c t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin (cfg0 (F := Ideal)).N) (h0 : ¬t.val % 6 = 0) (h1 : ¬t.val % 6 = 0) (h2 : 1 ≤ t.val % 6) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (X0_5 m c t) (outsAt0 m c (t.val - 1) (Nat.lt_of_le_of_lt (Nat.sub_le _ _) t.isLt)).1 (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (X0_5 m c t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What holds before position `n`: at the first the scratch holds anything, afterwards what the point before left in it. -/
def PhiS (c : Dev nD) : (n : ℕ) → n ≤ (cfg0 (F := Ideal)).N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ (cfg0 (F := Ideal)).N) (hz : n = 0) : PhiS m c n h = Pipeline.ΦA spec0 c := by
  subst hz; rfl

/-- After point `n` (before point `n + 1`): the carried scratch at that point's contents. -/
theorem PhiS_succ (c : Dev nD) (n : ℕ) (hn : n < (cfg0 (F := Ideal)).N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ (cfg0 (F := Ideal)).N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The call's data on core `c`: the arrays as the call finds them; after the body at point `t` each input's buffer at its
    block, the output's and the scratch at `outsAt0`. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => (outsAt0 m c t.val t.isLt).1
  Φ t := PhiS m c t.val (Nat.le_of_lt_succ t.isLt)
  q _ := fullShare
  owed _ := 0

/-- The arrays of the data are those the call finds. -/
theorem A_eq (c : Dev nD) (w : Fin (cfg0 (F := Ideal)).W) : (dats m 0 c).A w = V m c (Pipeline.arrRef spec0 w) := by
  dsimp only [dats]

/-- What holds at a point's start. -/
theorem PhiS_castSucc (c : Dev nD) (t : Fin (cfg0 (F := Ideal)).N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin (cfg0 (F := Ideal)).N) : (dats m 0 c).after 0 t = iblk m c 0 t := by dsimp only [dats]
theorem after0_1 (c : Dev nD) (t : Fin (cfg0 (F := Ideal)).N) : (dats m 0 c).after 1 t = iblk m c 1 t := by dsimp only [dats]
theorem after0_2 (c : Dev nD) (t : Fin (cfg0 (F := Ideal)).N) : (dats m 0 c).after 2 t = iblk m c 2 t := by dsimp only [dats]
theorem after0_3 (c : Dev nD) (t : Fin (cfg0 (F := Ideal)).N) : (dats m 0 c).after 3 t = iblk m c 3 t := by dsimp only [dats]
theorem after0_4 (c : Dev nD) (t : Fin (cfg0 (F := Ideal)).N) : (dats m 0 c).after 4 t = iblk m c 4 t := by dsimp only [dats]
theorem after0_5 (c : Dev nD) (t : Fin (cfg0 (F := Ideal)).N) : (dats m 0 c).after 5 t = X0_5 m c t := by dsimp only [dats]
theorem after0_6 (c : Dev nD) (t : Fin (cfg0 (F := Ideal)).N) : (dats m 0 c).after 6 t = (outsAt0 m c t.val t.isLt).1 := by dsimp only [dats]

/-- Each input's buffer holds its block at every point. -/
theorem before0_0 (c : Dev nD) (t : Fin (cfg0 (F := Ideal)).N) (d) : (dats m 0 c).before 0 t d = iblk m c 0 t :=
  before0_0_of m (dats m 0 c) (A_eq m c 0) (after0_0 m c) t d
theorem before0_1 (c : Dev nD) (t : Fin (cfg0 (F := Ideal)).N) (d) : (dats m 0 c).before 1 t d = iblk m c 1 t :=
  before0_1_of m (dats m 0 c) (A_eq m c 1) (after0_1 m c) t d
theorem before0_2 (c : Dev nD) (t : Fin (cfg0 (F := Ideal)).N) (d) : (dats m 0 c).before 2 t d = iblk m c 2 t :=
  before0_2_of m (dats m 0 c) (A_eq m c 2) (after0_2 m c) t d
theorem before0_3 (c : Dev nD) (t : Fin (cfg0 (F := Ideal)).N) (d) : (dats m 0 c).before 3 t d = iblk m c 3 t :=
  before0_3_of m (dats m 0 c) (A_eq m c 3) (after0_3 m c) t d
theorem before0_4 (c : Dev nD) (t : Fin (cfg0 (F := Ideal)).N) (d) : (dats m 0 c).before 4 t d = iblk m c 4 t :=
  before0_4_of m (dats m 0 c) (A_eq m c 4) (after0_4 m c) t d
theorem before0_5 (c : Dev nD) (t : Fin (cfg0 (F := Ideal)).N) (d) : (dats m 0 c).before 5 t d = X0_5 m c t :=
  before0_5_of m (dats m 0 c) (A_eq m c 5) (after0_5 m c) t d

/-- A point that leaves the output idle leaves its contents as they were. -/
theorem hcarry0_6 (c : Dev nD) : ∀ (t : Fin (cfg0 (F := Ideal)).N) (_ : t.val ≠ 0), (cfg0 (F := Ideal)).idle 6 (grid0.coords t) = true → (cfg0 (F := Ideal)).fresh 6 t.val = false →
    (dats m 0 c).after 6 t = (dats m 0 c).after 6 ⟨t.val - 1, by omega⟩ := by
  intro t _ hi _
  have hN : t.val < 72 := lt_of_lt_of_eq t.isLt (show (cfg0 (F := Ideal)).N = 72 from N_0)
  rw [after0_6, after0_6]
  by_cases h0 : t.val % 6 = 0
  · by_cases h1 : t.val % 6 = 0
    · by_cases h2 : 1 ≤ t.val % 6
      · exfalso; omega
      · rw [liveAt0_6_A t ((hcond0_0 t).mpr h0) ((hcond0_1 t).mpr h1) (fun h => h2 ((hcond0_2 t).mp h))] at hi
        exact absurd hi Bool.false_ne_true
    · exfalso; omega
  · by_cases h1 : t.val % 6 = 0
    · exfalso; omega
    · by_cases h2 : 1 ≤ t.val % 6
      · rw [liveAt0_6_B t (fun h => h0 ((hcond0_0 t).mp h)) (fun h => h1 ((hcond0_1 t).mp h)) ((hcond0_2 t).mpr h2)] at hi
        exact absurd hi Bool.false_ne_true
      · exfalso; omega
/-- At a point of case B the output's buffer holds what the point before left. -/
theorem before0_6_B (c : Dev nD) (t : Fin (cfg0 (F := Ideal)).N) (h0 : ¬t.val % 6 = 0) (h1 : ¬t.val % 6 = 0) (h2 : 1 ≤ t.val % 6) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_B t (fun h => h0 ((hcond0_0 t).mp h)) (fun h => h1 ((hcond0_1 t).mp h)) ((hcond0_2 t).mpr h2)]; exact Bool.false_ne_true)]
  dsimp only [dats]

/-! ## The body at any point -/

/-- What the body is called with at point `t`, -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin (cfg0 (F := Ideal)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point runs from what it is called with to what it returns: the point is of case A or of case B, and that
    case's run applies. -/
theorem sound_body (c : Dev nD) (t : Fin (cfg0 (F := Ideal)).N) :
    bodyPre m c t ⊢ wp frame (wpE (defs₀ (F := Ideal)) 𝒱₀ c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show (cfg0 (F := Ideal)).N = 72 from N_0)
  by_cases h0 : t.val % 6 = 0
  · by_cases h1 : t.val % 6 = 0
    · by_cases h2 : 1 ≤ t.val % 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        by_cases hz : t.val = 0
        · rw [PhiS_castSucc m c t, PhiS_zero m c _ _ hz, PhiA0_eq]
          rw [outsAt0_A m c t h0 h1 h2]
          unfold out0_A_6 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (X0_5 m c t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          iintro ⟨H0, H1, H2, H3, H4, H5, ⟨%e6, H6⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _)
        · rw [PhiS_castSucc m c t, PhiS_pos m c _ _ hz]
          rw [outsAt0_A m c t h0 h1 h2]
          unfold out0_A_6 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (X0_5 m c t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexists _; iexact HS0
          iintro ⟨H0, H1, H2, H3, H4, H5, ⟨%e6, H6⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _)
    · exfalso; omega
  · by_cases h1 : t.val % 6 = 0
    · exfalso; omega
    · by_cases h2 : 1 ≤ t.val % 6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2)], after0_6]
        by_cases hz : t.val = 0
        · exfalso; have hN : t.val < 72 := lt_of_lt_of_eq t.isLt (show (cfg0 (F := Ideal)).N = 72 from N_0); omega
        · rw [PhiS_castSucc m c t, PhiS_pos m c _ _ hz]
          rw [outsAt0_B m c t h0 h1 h2]
          simp only [before0_6_B m c t h0 h1 h2]
          unfold out0_B_6 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (X0_5 m c t) _ _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          iintro ⟨H0, H1, H2, H3, H4, H5, ⟨%e6, H6⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_B_6 c _ _ _ _ _ _ _ _ _ _ _ _ _ _ _ _ _ _ _ _ _ _ _ _ _ _ _ _)
      · exfalso; omega

/-- The call's body at point `t` is the kernel's on that point's buffers. -/
theorem defs₀_row (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

/-- The same, as the library asks for it. -/
theorem body_obligation (c : Dev nD) : BodyObligation (dats m 0 c) (defs₀ (F := Ideal)) 𝒱₀ () Set.univ := fun t => by
  rw [bigSep_W0, bigSep_W0, defs₀_row]
  exact triple_restated (sound_body m c t) rfl .rfl fun _ => .rfl

/-- What the call starts from is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch may be given back at any contents. -/
theorem Phi_out (c : Dev nD) (t : Fin ((cfg0 (F := Ideal)).N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last (cfg0 (F := Ideal)).N) ⊢ Pipeline.ΦA spec0 c :=
  Phi_out m c _ (by rw [Fin.val_last]; have : (cfg0 (F := Ideal)).N = 72 := N_0; omega)

/-! ## The run and the frame -/

set_option backward.isDefEq.respectTransparency.types false in
set_option maxHeartbeats 800000 in
/-- The idealised kernel's run: it ends, with every array of the call and every other buffer as computed, and every
    semaphore at zero. -/
theorem run_main_quiescent : θ_run defs (onTc (τ := τ) (main (F := Ideal))) (s₀ m ρ) (fun r => (Pipeline.FramePost (cfgs (F := Ideal)) (dats m) 0 (Pipeline.afterTail₀ (cfgs (F := Ideal)) (dats m) 0 (V0 m) [hostOps1])) r ∧ r.2.sem = fun _ => 0) :=
  Pipeline.θ_run_frame_around_track (Q' := _) (cfgs (F := Ideal)) (dats m) (0 : Fin 1) (launch0 (F := Ideal)) (defs₀ (F := Ideal)) 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := hin m) (hout := hout m)

/-- The same without the semaphores. -/
theorem run_main : θ_run defs (onTc (τ := τ) (main (F := Ideal))) (s₀ m ρ) (Pipeline.FramePost (cfgs (F := Ideal)) (dats m) 0 (Pipeline.afterTail₀ (cfgs (F := Ideal)) (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The idealised kernel ends, its arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.KI

end
-- ==== Proof.Val.Spec.lean ====
/-
  The mathematics both programs compute, on plain functions: one linear map with its bias, one column of scores, the
  weights of a column (the exponentials of the entries that reach the 51st largest, zero elsewhere), and one head's
  output before the last product.
-/
module

public import proofs.«01_k».proof.Proof.Thr.Count
public import Idealize.ShloMosaic.Lib.Pointwise

@[expose] public section

noncomputable section

namespace Cert.Proof.Val

open Cert.Proof.Thr
open Idealize.ShloMosaic Finset

/-- One eighth, as the kernel writes it. -/
def c8 : EReal := Ideal.ofBits .f32 1040187392#32

/-- A row times a matrix's row, plus its bias. -/
def lin (x : Fin 512 → Fin 768 → EReal) (w : Fin 64 → Fin 768 → EReal) (b : Fin 64 → EReal) (l : Fin 512) (f : Fin 64) : EReal :=
  (∑ d, x l d * w f d) + b f

/-- The score of key row `t` for query row `l`. -/
def sco (k q : Fin 512 → Fin 64 → EReal) (bias : Fin 512 → Fin 512 → EReal) (l t : Fin 512) : EReal :=
  (∑ f, k t f * q l f) * c8 + bias t l

/-- The weight of entry `t` before normalisation. -/
def wt (s : Fin 512 → EReal) (t : Fin 512) : EReal := if thrOf s ≤ s t then Ideal.exp (s t - univ.sup s) else 0

/-- The weighted mean of the values' column `f`. -/
def hout (s : Fin 512 → EReal) (v : Fin 512 → Fin 64 → EReal) (f : Fin 64) : EReal :=
  (∑ t, wt s t * v t f) * Ideal.div 1 (∑ t, wt s t)

/-- Head `h`'s row among the queries' (0), keys' (1) and values' (2) weights. -/
def row (r : Fin 3) (h : Fin 12) : Fin 36 := ⟨12 * r.val + h.val, by omega⟩

/-- Entry `f` of a row of 64. -/
def at64 (r : Fin 36) (f : Fin 64) : Fin 2304 := ⟨r.val * 64 + f.val, by omega⟩
def at768 (h : Fin 12) (f : Fin 64) : Fin 768 := ⟨h.val * 64 + f.val, by omega⟩

section whole

variable (x : Fin 512 → Fin 12 → Fin 768 → EReal) (W : Fin 2304 → Fin 768 → EReal) (bq : Fin 2304 → EReal)
  (Wo : Fin 768 → Fin 768 → EReal) (bo : Fin 768 → EReal) (S : Fin 12 → Fin 768 → Fin 768 → EReal)

/-- One of the 36 linear maps on batch `b`. -/
def qkv (b : Fin 12) (r : Fin 36) : Fin 512 → Fin 64 → EReal :=
  lin (fun l d => x l b d) (fun f d => W (at64 r f) d) (fun f => bq (at64 r f))

/-- The bias of key row `t` for query row `l`. -/
def biasOf (b : Fin 12) (t l : Fin 512) : EReal :=
  Ideal.log (S b ⟨l.val, by omega⟩ ⟨t.val, by omega⟩ + Ideal.ofBits FTy.f32 841731191#32)

/-- Query row `l`'s scores under head `h`. -/
def scores (h b : Fin 12) (l : Fin 512) : Fin 512 → EReal :=
  sco (qkv x W bq b (row 1 h)) (qkv x W bq b (row 0 h)) (biasOf S b) l

/-- Head `h`'s part of the result, -/
def part (b : Fin 12) (l : Fin 512) (e : Fin 768) (h : Fin 12) : EReal :=
  ∑ f, hout (scores x W bq S h b l) (qkv x W bq b (row 2 h)) f * Wo e (at768 h f)

/-- the same at any number, zero beyond the heads, -/
def partN (b : Fin 12) (l : Fin 512) (e : Fin 768) (k : ℕ) : EReal :=
  if h : k < 12 then part x W bq Wo S b l e ⟨k, h⟩ else 0

/-- the first `k` heads' parts and the last bias, -/
def partial' (b : Fin 12) (l : Fin 512) (e : Fin 768) (k : ℕ) : EReal :=
  (∑ i ∈ range k, partN x W bq Wo S b l e i) + bo e

/-- and the whole result. -/
def result (l : Fin 512) (b : Fin 12) (e : Fin 768) : EReal :=
  (∑ h, part x W bq Wo S b l e h) + bo e

theorem partial_twelve (b : Fin 12) (l : Fin 512) (e : Fin 768) :
    partial' x W bq Wo bo S b l e 12 = result x W bq Wo bo S l b e := by
  unfold partial' result
  rw [Finset.sum_range]
  refine congrArg (· + _) (Finset.sum_congr rfl fun h _ => ?_)
  unfold partN
  rw [dif_pos h.isLt]

/-- Two more heads. -/
theorem partial_step (b : Fin 12) (l : Fin 512) (e : Fin 768) (k : ℕ) (h0 : k < 12) (h1 : k + 1 < 12) :
    partial' x W bq Wo bo S b l e (k + 2)
      = partial' x W bq Wo bo S b l e k + (part x W bq Wo S b l e ⟨k, h0⟩ + part x W bq Wo S b l e ⟨k + 1, h1⟩) := by
  unfold partial'
  rw [Finset.sum_range_succ, Finset.sum_range_succ]
  have e0 : partN x W bq Wo S b l e k = part x W bq Wo S b l e ⟨k, h0⟩ := dif_pos h0
  have e1 : partN x W bq Wo S b l e (k + 1) = part x W bq Wo S b l e ⟨k + 1, h1⟩ := dif_pos h1
  rw [e0, e1]
  simp only [add_assoc, add_comm, add_left_comm]

theorem partial_two (b : Fin 12) (l : Fin 512) (e : Fin 768) :
    (part x W bq Wo S b l e 0 + part x W bq Wo S b l e 1) + bo e = partial' x W bq Wo bo S b l e 2 := by
  unfold partial'
  rw [Finset.sum_range_succ, Finset.sum_range_succ, Finset.sum_range_zero, zero_add]
  rfl

end whole

end Cert.Proof.Val
end
-- ==== Proof.Val.Pay.lean ====
/-
  The kernel body's vectors, entry by entry: the three linear maps, the scores, the weights, a head's output, the bias
  block and the two heads' share of the result.
-/
module

public import proofs.«01_k».proof.Proof.Val.Spec
public import proofs.«01_k».proof.Proof.Thr.Vec

@[expose] public section

set_option maxRecDepth 16384

noncomputable section

namespace Cert.Proof.Val

open Cert.KernelIdeal Cert.KernelIdeal.Gen Cert.Proof.Thr
open Idealize.ShloMosaic Finset

/-- The linear map of the values (and, in the score's own text, of the queries and keys). -/
theorem pay17_apply (v7 : FVec Ideal S512x768 .f32) (v21 : FVec Ideal S64x768 .f32) (v35 : FVec Ideal S64 .f32) (l : Fin 512) (f : Fin 64) :
    k0_pay17 v7 v21 v35 (ix2 l f) = lin (fun l d => v7 (ix2 l d)) (fun f d => v21 (ix2 f d)) (fun f => v35 (ix1 f)) l f := by
  unfold k0_pay17 lin
  pointwise

/-- The scores, transposed: row the key's position, column the query's. -/
theorem pay18_apply (v7 : FVec Ideal S512x768 .f32) (v11 v16 : FVec Ideal S64x768 .f32) (v25 v30 : FVec Ideal S64 .f32) (v51 : Vec Ideal S512x512 .f32) (t l : Fin 512) :
    k0_pay18 v7 v11 v16 v25 v30 v51 (ix2 t l) = sco (lin (fun l d => v7 (ix2 l d)) (fun f d => v16 (ix2 f d)) (fun f => v30 (ix1 f)))
      (lin (fun l d => v7 (ix2 l d)) (fun f d => v11 (ix2 f d)) (fun f => v25 (ix1 f))) (fun t l => v51 (ix2 t l)) l t := by
  unfold k0_pay18 sco lin c8
  pointwise

/-- The weights of the second head. -/
theorem pay46_apply (s : FVec Ideal S512x512 .f32) (t l : Fin 512) :
    k0_pay46 s (k0_pay26 s) (thrVec s) (ix2 t l) = wt (col s l) t := by
  have h : k0_pay46 s (k0_pay26 s) (thrVec s) (ix2 t l)
      = if thrVec s (ix2 0 l) ≤ s (ix2 t l) then Ideal.exp (s (ix2 t l) - k0_pay26 s (ix2 0 l)) else 0 := by
    unfold k0_pay46
    pointwise
  rw [h, pay26_apply]; rfl

theorem pay47_apply (t : Fin 512) : k0_pay47 (F := Ideal) (ix2 t 0) = 1 := by
  unfold k0_pay47
  pointwise

/-- The first head's output. -/
theorem pay48_apply (v : FVec Ideal S512x64 .f32) (s : FVec Ideal S512x512 .f32) (l : Fin 512) (f : Fin 64) :
    k0_pay48 v s (k0_pay26 s) (thrVec s) (ix2 l f) = hout (col s l) (fun t f => v (ix2 t f)) f := by
  have h : ∀ m thr : FVec Ideal S1x512 .f32, k0_pay48 v s m thr (ix2 l f)
      = (∑ x, (if thr (ix2 0 l) ≤ s (ix2 x l) then Ideal.exp (s (ix2 x l) - m (ix2 0 l)) else 0) * v (ix2 x f)) *
      Ideal.div 1 (∑ x, (if thr (ix2 0 l) ≤ s (ix2 x l) then Ideal.exp (s (ix2 x l) - m (ix2 0 l)) else 0) * k0_pay47 (F := Ideal) (ix2 x 0)) := by
    intro m thr
    unfold k0_pay48
    pointwise
  rw [h, pay26_apply]
  unfold hout
  congr 2
  refine Finset.sum_congr rfl fun t _ => ?_
  rw [pay47_apply, mul_one]; rfl

/-- The bias block: the logarithm of the entries raised by a small constant. -/
theorem pay9_apply (v : Vec Ideal S1x512x512 .f32) (t l : Fin 512) :
    k0_pay9 v (ix2 t l) = Ideal.log (v (ix3 0 t l) + Ideal.ofBits FTy.f32 841731191#32) := by
  unfold k0_pay9
  pointwise

/-- The two heads' share: each head's output times its rows of the last matrix. -/
theorem pay1_apply (o : FVec Ideal S512x64 .f32) (v : FVec Ideal S512x64 .f32) (s : FVec Ideal S512x512 .f32)
    (w : FVec Ideal S64x768 .f32) (w' : Vec Ideal S1x64x768 .f32) (l : Fin 512) (e : Fin 768) :
    k0_pay1 v (k0_pay46 s (k0_pay26 s) (thrVec s)) k0_pay47 o w (constant S512x768 FTy.f32 0#32) w' (ix2 l e)
      = ∑ f, o (ix2 l f) * w (ix2 f e) + ∑ f, hout (col s l) (fun t f => v (ix2 t f)) f * w' (ix3 0 f e) := by
  have h : ∀ (p : FVec Ideal S512x512 .f32) (c : FVec Ideal S512x768 .f32), k0_pay1 v p k0_pay47 o w c w' (ix2 l e)
      = c (ix2 l e) + ∑ x, o (ix2 l x) * w (ix2 x e) +
      ∑ x, (∑ x_1, p (ix2 x_1 l) * v (ix2 x_1 x)) * Ideal.div 1 (∑ x, p (ix2 x l) * k0_pay47 (F := Ideal) (ix2 x 0)) * w' (ix3 0 x e) := by
    intro p c
    unfold k0_pay1
    pointwise
  rw [h]
  have h0 : constant (F := Ideal) S512x768 FTy.f32 0#32 (ix2 l e) = 0 := by pointwise
  rw [h0, zero_add]
  unfold hout
  simp only [pay46_apply, pay47_apply, mul_one]

/-- The first point of a batch stores the share plus the last bias, -/
theorem pay2_apply (v92 v161 : FVec Ideal S512x64 .f32) (v152 : FVec Ideal S512x512 .f32) (v153 : FVec Ideal S512x1 .f32) (v165 : FVec Ideal S64x768 .f32) (cst : FVec Ideal S512x768 .f32) (v176 : Vec Ideal S1x64x768 .f32) (b : Vec Ideal S1x768 .f32) (l : Fin 512) (e : Fin 768) :
    k0_pay2 v92 v152 v153 v161 v165 cst v176 b (ix3 0 l e) = k0_pay1 v92 v152 v153 v161 v165 cst v176 (ix2 l e) + b (ix2 0 e) := by
  unfold k0_pay2
  pointwise

/-- a later one what was there plus the share. -/
theorem pay3_apply (v92 v161 : FVec Ideal S512x64 .f32) (v152 : FVec Ideal S512x512 .f32) (v153 : FVec Ideal S512x1 .f32) (v165 : FVec Ideal S64x768 .f32) (cst : FVec Ideal S512x768 .f32) (v176 : Vec Ideal S1x64x768 .f32) (o : Vec Ideal S1x512x768 .f32) (l : Fin 512) (e : Fin 768) :
    k0_pay3 v92 v152 v153 v161 v165 cst v176 o (ix3 0 l e) = o (ix3 0 l e) + k0_pay1 v92 v152 v153 v161 v165 cst v176 (ix2 l e) := by
  unfold k0_pay3
  pointwise

theorem pay10_apply (v : Vec Ideal S1x512x768 .f32) (l : Fin 512) (d : Fin 768) : k0_pay10 v (ix2 l d) = v (ix3 0 l d) := by
  unfold k0_pay10
  pointwise

theorem pay11_apply (v : Vec Ideal S1x64x768 .f32) (f : Fin 64) (d : Fin 768) : k0_pay11 v (ix2 f d) = v (ix3 0 f d) := by
  unfold k0_pay11
  pointwise

theorem pay14_apply (v : Vec Ideal S1x64 .f32) (f : Fin 64) : k0_pay14 v (ix1 f) = v (ix2 0 f) := by
  unfold k0_pay14
  pointwise

end Cert.Proof.Val
end
-- ==== Proof.Val.Point.lean ====
/-
  What one grid point leaves, entry by entry: the output block's entries and the bias the kernel keeps, in terms of the
  point's input blocks. The point's two heads are `2 h` and `2 h + 1` for its second coordinate `h`.
-/
module

public import proofs.«01_k».proof.Proof.Val.Pay
public import proofs.«01_k».proof.Proof.KI.Frame
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Proof.Val

open Cert.KernelIdeal Cert.KernelIdeal.Gen Cert.Proof.Thr Cert.Proof.KI
open Idealize.ShloMosaic Idealize.ShloMosaic.TcCoe Idealize.ShloMosaic.Tactic Finset

theorem hz2 : (![0, 0] : Fin 2 → Nat) = fun _ => 0 := funext fun a => by fin_cases a <;> rfl
theorem hz3 : (![0, 0, 0] : Fin 3 → Nat) = fun _ => 0 := funext fun a => by fin_cases a <;> rfl

/-- The point's two heads. -/
def hdA (i : grid0.Coords) : Fin 12 := ⟨2 * (i 1).val, by have : (i 1).val < 6 := (i 1).isLt; omega⟩
def hdB (i : grid0.Coords) : Fin 12 := ⟨2 * (i 1).val + 1, by have : (i 1).val < 6 := (i 1).isLt; omega⟩

/-- One of the head's linear maps on the point's input block. -/
def linB (x0 : Vec Ideal S1x512x768 .f32) (x1 : Vec Ideal S36x64x768 .f32) (x2 : Vec Ideal S36x64 .f32) (r : Fin 36) :
    Fin 512 → Fin 64 → EReal :=
  lin (fun l d => x0 (ix3 0 l d)) (fun f d => x1 (ix3 r f d)) (fun f => x2 (ix2 r f))

/-- The head's share of the result, over the block's bias. -/
def share (x0 : Vec Ideal S1x512x768 .f32) (x1 : Vec Ideal S36x64x768 .f32) (x2 : Vec Ideal S36x64 .f32)
    (x3 : Vec Ideal S12x64x768 .f32) (bias : Vec Ideal S512x512 .f32) (h : Fin 12) (l : Fin 512) (e : Fin 768) : EReal :=
  ∑ f, hout (sco (linB x0 x1 x2 (row 1 h)) (linB x0 x1 x2 (row 0 h)) (fun t l => bias (ix2 t l)) l) (linB x0 x1 x2 (row 2 h)) f
    * x3 (ix3 h f e)

theorem ld36 (X : Vec Ideal S36x64x768 .f32) (off : Fin 3 → Nat) (inb) (n : Fin 36) (h : off = ![n.val, 0, 0]) (f : Fin 64) (d : Fin 768) :
    View.ld (Val := Elt Ideal) X (Rect.unit off ![1, 64, 768] inb) (ix3 0 f d) = X (ix3 n f d) := by
  subst h
  refine View.ld_unit_apply_of X _ _ inb (ix3 (0 : Fin 1) f d) (ix3 n f d) fun a => ?_
  fin_cases a <;> simp [ix3]

theorem ld36b (X : Vec Ideal S36x64 .f32) (off : Fin 2 → Nat) (inb) (n : Fin 36) (h : off = ![n.val, 0]) (f : Fin 64) :
    View.ld (Val := Elt Ideal) X (Rect.unit off ![1, 64] inb) (ix2 0 f) = X (ix2 n f) := by
  subst h
  refine View.ld_unit_apply_of X _ _ inb (ix2 (0 : Fin 1) f) (ix2 n f) fun a => ?_
  fin_cases a <;> simp [ix2]

theorem ld12 (X : Vec Ideal S12x64x768 .f32) (off : Fin 3 → Nat) (inb) (n : Fin 12) (h : off = ![n.val, 0, 0]) (f : Fin 64) (d : Fin 768) :
    View.ld (Val := Elt Ideal) X (Rect.unit off ![1, 64, 768] inb) (ix3 0 f d) = X (ix3 n f d) := by
  subst h
  refine View.ld_unit_apply_of X _ _ inb (ix3 (0 : Fin 1) f d) (ix3 n f d) fun a => ?_
  fin_cases a <;> simp [ix3]

section offsets
variable (i : grid0.Coords)
theorem o1 : k0_off1 i = ![(row 0 (hdA i)).val, 0, 0] := (k0_off1_eq i).trans (by simp [row, hdA])
theorem o2k : k0_off2 i 12#32 = ![(row 1 (hdA i)).val, 0, 0] := (k0_off2_eq i 0).trans (by simp [row, hdA, Nat.add_comm])
theorem o2v : k0_off2 i 24#32 = ![(row 2 (hdA i)).val, 0, 0] := (k0_off2_eq i 1).trans (by simp [row, hdA]; omega)
theorem o3 : k0_off3 i = ![(row 0 (hdA i)).val, 0] := (k0_off3_eq i).trans (by simp [row, hdA])
theorem o4k : k0_off4 i 12#32 = ![(row 1 (hdA i)).val, 0] := (k0_off4_eq i 0).trans (by simp [row, hdA, Nat.add_comm])
theorem o4v : k0_off4 i 24#32 = ![(row 2 (hdA i)).val, 0] := (k0_off4_eq i 1).trans (by simp [row, hdA]; omega)
theorem o5 : k0_off5 i = ![(row 0 (hdB i)).val, 0, 0] := (k0_off5_eq i).trans (by simp [row, hdB])
theorem o6k : k0_off6 i 12#32 = ![(row 1 (hdB i)).val, 0, 0] := (k0_off6_eq i 0).trans (by simp [row, hdB]; omega)
theorem o6v : k0_off6 i 24#32 = ![(row 2 (hdB i)).val, 0, 0] := (k0_off6_eq i 1).trans (by simp [row, hdB]; omega)
theorem o7 : k0_off7 i = ![(row 0 (hdB i)).val, 0] := (k0_off7_eq i).trans (by simp [row, hdB])
theorem o8k : k0_off8 i 12#32 = ![(row 1 (hdB i)).val, 0] := (k0_off8_eq i 0).trans (by simp [row, hdB]; omega)
theorem o8v : k0_off8 i 24#32 = ![(row 2 (hdB i)).val, 0] := (k0_off8_eq i 1).trans (by simp [row, hdB]; omega)
theorem o9 : k0_off9 i = ![(hdA i).val, 0, 0] := (k0_off9_eq i).trans (by simp [hdA])
theorem o10 : k0_off10 i = ![(hdB i).val, 0, 0] := (k0_off10_eq i).trans (by simp [hdB])
end offsets

/-- A head's output, from the loaded weights: the first head's spelling, -/
theorem head_apply (x0 : Vec Ideal S1x512x768 .f32) (x1 : Vec Ideal S36x64x768 .f32) (x2 : Vec Ideal S36x64 .f32) (bias : Vec Ideal S512x512 .f32)
    (wq wk wv : Vec Ideal S1x64x768 .f32) (bq bk bv : Vec Ideal S1x64 .f32) (h : Fin 12)
    (hwq : ∀ f d, wq (ix3 0 f d) = x1 (ix3 (row 0 h) f d)) (hwk : ∀ f d, wk (ix3 0 f d) = x1 (ix3 (row 1 h) f d))
    (hwv : ∀ f d, wv (ix3 0 f d) = x1 (ix3 (row 2 h) f d)) (hbq : ∀ f, bq (ix2 0 f) = x2 (ix2 (row 0 h) f))
    (hbk : ∀ f, bk (ix2 0 f) = x2 (ix2 (row 1 h) f)) (hbv : ∀ f, bv (ix2 0 f) = x2 (ix2 (row 2 h) f)) (l : Fin 512) (f : Fin 64) :
    hout (col (k0_pay18 (k0_pay10 x0) (k0_pay11 wq) (k0_pay11 wk) (k0_pay14 bq) (k0_pay14 bk) bias) l)
      (fun t f => k0_pay17 (k0_pay10 x0) (k0_pay11 wv) (k0_pay14 bv) (ix2 t f)) f
    = hout (sco (linB x0 x1 x2 (row 1 h)) (linB x0 x1 x2 (row 0 h)) (fun t l => bias (ix2 t l)) l) (linB x0 x1 x2 (row 2 h)) f := by
  have hs : col (k0_pay18 (k0_pay10 x0) (k0_pay11 wq) (k0_pay11 wk) (k0_pay14 bq) (k0_pay14 bk) bias) l
      = sco (linB x0 x1 x2 (row 1 h)) (linB x0 x1 x2 (row 0 h)) (fun t l => bias (ix2 t l)) l := by
    funext t
    unfold col
    rw [pay18_apply]
    simp only [pay10_apply, pay11_apply, pay14_apply, hwq, hwk, hbq, hbk]
    rfl
  have hv : (fun t f => k0_pay17 (k0_pay10 x0) (k0_pay11 wv) (k0_pay14 bv) (ix2 t f)) = linB x0 x1 x2 (row 2 h) := by
    funext t f
    rw [pay17_apply]
    simp only [pay10_apply, pay11_apply, pay14_apply, hwv, hbv]
    rfl
  rw [hs, hv]

/-- Both heads' share, as the body computes it from its loads. -/
theorem both_apply (i : grid0.Coords) (x0 : Vec Ideal S1x512x768 .f32) (x1 : Vec Ideal S36x64x768 .f32) (x2 : Vec Ideal S36x64 .f32)
    (x3 : Vec Ideal S12x64x768 .f32) (bias : Vec Ideal S512x512 .f32)
    (wq wk wv wq' wk' wv' wo wo' : Vec Ideal S1x64x768 .f32) (bq bk bv bq' bk' bv' : Vec Ideal S1x64 .f32)
    (h1 : ∀ f d, wq (ix3 0 f d) = x1 (ix3 (row 0 (hdA i)) f d)) (h2 : ∀ f d, wk (ix3 0 f d) = x1 (ix3 (row 1 (hdA i)) f d))
    (h3 : ∀ f d, wv (ix3 0 f d) = x1 (ix3 (row 2 (hdA i)) f d)) (h4 : ∀ f, bq (ix2 0 f) = x2 (ix2 (row 0 (hdA i)) f))
    (h5 : ∀ f, bk (ix2 0 f) = x2 (ix2 (row 1 (hdA i)) f)) (h6 : ∀ f, bv (ix2 0 f) = x2 (ix2 (row 2 (hdA i)) f))
    (h1' : ∀ f d, wq' (ix3 0 f d) = x1 (ix3 (row 0 (hdB i)) f d)) (h2' : ∀ f d, wk' (ix3 0 f d) = x1 (ix3 (row 1 (hdB i)) f d))
    (h3' : ∀ f d, wv' (ix3 0 f d) = x1 (ix3 (row 2 (hdB i)) f d)) (h4' : ∀ f, bq' (ix2 0 f) = x2 (ix2 (row 0 (hdB i)) f))
    (h5' : ∀ f, bk' (ix2 0 f) = x2 (ix2 (row 1 (hdB i)) f)) (h6' : ∀ f, bv' (ix2 0 f) = x2 (ix2 (row 2 (hdB i)) f))
    (h7 : ∀ f e, wo (ix3 0 f e) = x3 (ix3 (hdA i) f e)) (h7' : ∀ f e, wo' (ix3 0 f e) = x3 (ix3 (hdB i) f e)) (l : Fin 512) (e : Fin 768) :
    k0_pay1 (k0_pay24 (k0_pay10 x0) (k0_pay21 wv') bv')
      (k0_pay46 (k0_pay25 (k0_pay10 x0) (k0_pay19 wq') (k0_pay20 wk') (k0_pay22 bq') (k0_pay23 bk') bias)
        (k0_pay27 (k0_pay10 x0) (k0_pay19 wq') (k0_pay20 wk') (k0_pay22 bq') (k0_pay23 bk') bias)
        (thrVec (k0_pay25 (k0_pay10 x0) (k0_pay19 wq') (k0_pay20 wk') (k0_pay22 bq') (k0_pay23 bk') bias)))
      k0_pay47
      (k0_pay48 (k0_pay17 (k0_pay10 x0) (k0_pay13 wv) (k0_pay16 bv))
        (k0_pay18 (k0_pay10 x0) (k0_pay11 wq) (k0_pay12 wk) (k0_pay14 bq) (k0_pay15 bk) bias)
        (k0_pay26 (k0_pay18 (k0_pay10 x0) (k0_pay11 wq) (k0_pay12 wk) (k0_pay14 bq) (k0_pay15 bk) bias))
        (thrVec (k0_pay18 (k0_pay10 x0) (k0_pay11 wq) (k0_pay12 wk) (k0_pay14 bq) (k0_pay15 bk) bias)))
      (k0_pay49 wo) (constant S512x768 FTy.f32 0#32) wo' (ix2 l e)
    = share x0 x1 x2 x3 bias (hdA i) l e + share x0 x1 x2 x3 bias (hdB i) l e := by
  refine (pay1_apply _ (k0_pay17 (k0_pay10 x0) (k0_pay11 wv') (k0_pay14 bv'))
    (k0_pay18 (k0_pay10 x0) (k0_pay11 wq') (k0_pay11 wk') (k0_pay14 bq') (k0_pay14 bk') bias) (k0_pay11 wo) wo' l e).trans ?_
  unfold share
  refine congrArg₂ (· + ·) (Finset.sum_congr rfl fun f _ => ?_) (Finset.sum_congr rfl fun f _ => ?_)
  · rw [pay11_apply, h7]
    refine congrArg (· * _) ?_
    refine (pay48_apply (k0_pay17 (k0_pay10 x0) (k0_pay11 wv) (k0_pay14 bv))
      (k0_pay18 (k0_pay10 x0) (k0_pay11 wq) (k0_pay11 wk) (k0_pay14 bq) (k0_pay14 bk) bias) l f).trans ?_
    exact head_apply x0 x1 x2 bias wq wk wv bq bk bv (hdA i) h1 h2 h3 h4 h5 h6 l f
  · rw [h7', head_apply x0 x1 x2 bias wq' wk' wv' bq' bk' bv' (hdB i) h1' h2' h3' h4' h5' h6' l f]

/-- The bias kept from a batch's first point. -/
theorem sout_A (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) :
    sout0_A_0 c i arg2 harg2 arg3 harg3 arg4 harg4 arg5 harg5 arg6 harg6 arg7 harg7 arg8 harg8 arg9 harg9 hc0 hc1 hc2 x0 x1 x2 x3 x4 x5 = k0_pay9 x5 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4 x5)]
  unfold kernelRun0_A
  dsimp only
  sl_unfold_run_names
  rw [View.canon_unit_zero hz2]
  simp only [View.readAt_eq_ld, harg7.read_unread, View.ld_unit_zero (S := S1x512x512) hz3]

/-- A batch's first point leaves its heads' share plus the last bias, -/
theorem out_A (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : cond0_0 i) (hc1 : cond0_1 i) (hc2 : ¬cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (l : Fin 512) (e : Fin 768) :
    out0_A_6 c i arg2 harg2 arg3 harg3 arg4 harg4 arg5 harg5 arg6 harg6 arg7 harg7 arg8 harg8 arg9 harg9 hc0 hc1 hc2 x0 x1 x2 x3 x4 x5 (ix3 0 l e)
      = (share x0 x1 x2 x3 (k0_pay9 x5) (hdA i) l e + share x0 x1 x2 x3 (k0_pay9 x5) (hdB i) l e) + x4 (ix2 0 e) := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4 x5)]
  unfold kernelRun0_A
  dsimp only
  sl_unfold_run_names
  rw [View.canon_unit_zero hz3]
  simp only [View.readCov_unit_zero (S := S512x512) _ hz2, View.readAt_eq_ld, harg2.read_unread, harg3.read_unread, harg4.read_unread, harg5.read_unread, harg6.read_unread, harg7.read_unread, View.ld_unit_zero (S := S1x512x512) hz3, View.ld_unit_zero (S := S1x512x768) hz3, View.ld_unit_zero (S := S1x768) hz2]
  rw [pay2_apply]
  exact congrArg (· + _) (both_apply i x0 x1 x2 x3 (k0_pay9 x5) _ _ _ _ _ _ _ _ _ _ _ _ _ _
      (fun f d => ld36 x1 _ _ _ (o1 i) f d) (fun f d => ld36 x1 _ _ _ (o2k i) f d) (fun f d => ld36 x1 _ _ _ (o2v i) f d)
      (fun f => ld36b x2 _ _ _ (o3 i) f) (fun f => ld36b x2 _ _ _ (o4k i) f) (fun f => ld36b x2 _ _ _ (o4v i) f)
      (fun f d => ld36 x1 _ _ _ (o5 i) f d) (fun f d => ld36 x1 _ _ _ (o6k i) f d) (fun f d => ld36 x1 _ _ _ (o6v i) f d)
      (fun f => ld36b x2 _ _ _ (o7 i) f) (fun f => ld36b x2 _ _ _ (o8k i) f) (fun f => ld36b x2 _ _ _ (o8v i) f)
      (fun f e => ld12 x3 _ _ _ (o9 i) f e) (fun f e => ld12 x3 _ _ _ (o10 i) f e) l e)

/-- a later point what was there plus its heads' share. -/
theorem out_B (c : Dev nD) (i : grid0.Coords) (arg2 : Memref sig .tc .vmem S1x512x768 .f32) (harg2 : arg2.IsWhole) (arg3 : Memref sig .tc .vmem S36x64x768 .f32) (harg3 : arg3.IsWhole) (arg4 : Memref sig .tc .vmem S36x64 .f32) (harg4 : arg4.IsWhole) (arg5 : Memref sig .tc .vmem S12x64x768 .f32) (harg5 : arg5.IsWhole) (arg6 : Memref sig .tc .vmem S1x768 .f32) (harg6 : arg6.IsWhole) (arg7 : Memref sig .tc .vmem S1x512x512 .f32) (harg7 : arg7.IsWhole) (arg8 : Memref sig .tc .vmem S1x512x768 .f32) (harg8 : arg8.IsWhole) (arg9 : Memref sig .tc .vmem S512x512 .f32) (harg9 : arg9.IsWhole) (hc0 : ¬cond0_0 i) (hc1 : ¬cond0_1 i) (hc2 : cond0_2 i)
    (x0 : Vec Ideal S1x512x768 .f32) (x1 : Vec Ideal S36x64x768 .f32) (x2 : Vec Ideal S36x64 .f32) (x3 : Vec Ideal S12x64x768 .f32) (x4 : Vec Ideal S1x768 .f32) (x5 : Vec Ideal S1x512x512 .f32) (xo6 : Vec Ideal S1x512x768 .f32) (xs0 : Vec Ideal S512x512 .f32) (l : Fin 512) (e : Fin 768) :
    out0_B_6 c i arg2 harg2 arg3 harg3 arg4 harg4 arg5 harg5 arg6 harg6 arg7 harg7 arg8 harg8 arg9 harg9 hc0 hc1 hc2 x0 x1 x2 x3 x4 x5 xo6 xs0 (ix3 0 l e)
      = xo6 (ix3 0 l e) + (share x0 x1 x2 x3 xs0 (hdA i) l e + share x0 x1 x2 x3 xs0 (hdB i) l e) := by
  unfold out0_B_6
  rw [View.read_writes_eq_canon _ _ _ (cover0_B_6 c i arg2 harg2 arg3 harg3 arg4 harg4 arg5 harg5 arg6 harg6 arg7 harg7 arg8 harg8 arg9 harg9 hc0 hc1 hc2 x0 x1 x2 x3 x4 x5 xo6 xs0)]
  unfold kernelRun0_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S512x512) hz2, View.ld_unit_zero (S := S1x512x768) hz3, View.ld_unit_zero (S := S1x768) hz2]
  rw [pay3_apply]
  exact congrArg (_ + ·) (both_apply i x0 x1 x2 x3 xs0 _ _ _ _ _ _ _ _ _ _ _ _ _ _
      (fun f d => ld36 x1 _ _ _ (o1 i) f d) (fun f d => ld36 x1 _ _ _ (o2k i) f d) (fun f d => ld36 x1 _ _ _ (o2v i) f d)
      (fun f => ld36b x2 _ _ _ (o3 i) f) (fun f => ld36b x2 _ _ _ (o4k i) f) (fun f => ld36b x2 _ _ _ (o4v i) f)
      (fun f d => ld36 x1 _ _ _ (o5 i) f d) (fun f d => ld36 x1 _ _ _ (o6k i) f d) (fun f d => ld36 x1 _ _ _ (o6v i) f d)
      (fun f => ld36b x2 _ _ _ (o7 i) f) (fun f => ld36b x2 _ _ _ (o8k i) f) (fun f => ld36b x2 _ _ _ (o8v i) f)
      (fun f e => ld12 x3 _ _ _ (o9 i) f e) (fun f e => ld12 x3 _ _ _ (o10 i) f e) l e)

end Cert.Proof.Val
end
-- ==== Proof.Val.Blocks.lean ====
/-
  What the kernel's windows read: each input block's entries in terms of the arguments. Point `t` of the 72 works on batch
  `t / 6`; the weights and biases come whole, the rows and the bias rows by batch.
-/
module

public import proofs.«01_k».proof.Proof.Val.Point
public import Idealize.ShloMosaic.Lib.StableHlo.Run

@[expose] public section

set_option maxRecDepth 16384

noncomputable section

namespace Cert.Proof.Val

open Cert.KernelIdeal Cert.KernelIdeal.Gen Cert.Proof.Thr Cert.Proof.KI
open Idealize.ShloMosaic Idealize.ShloMosaic.TcCoe Idealize.ShloMosaic.Tactic Finset

variable (m : (ℓ : Loc nD τ sig) → Buf (Elt Ideal) ℓ)

/-- Point `t`'s batch. -/
def bat (t : Fin (cfg0 (F := Ideal)).N) : Fin 12 := ⟨t.val / 6, by
  have : t.val < 72 := lt_of_lt_of_eq t.isLt (show (cfg0 (F := Ideal)).N = 72 from N_0); omega⟩

theorem idx0 : ∀ t : Fin grid0.N, win0_0.index t 0 = t.val / 6 ∧ win0_0.index t 1 = 0 ∧ win0_0.index t 2 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = t.val / 6 ∧ win0_5.index t 1 = 0 ∧ win0_5.index t 2 = 0 := by decide +kernel
theorem idx6 : ∀ t : Fin grid0.N, win0_6.index t 0 = t.val / 6 ∧ win0_6.index t 1 = 0 ∧ win0_6.index t 2 = 0 := by decide +kernel

theorem iblk0_apply (c : Dev nD) (t : Fin (cfg0 (F := Ideal)).N) (l : Fin 512) (d : Fin 768) :
    (iblk m c 0 t : Vec Ideal S1x512x768 .f32) (ix3 0 l d) = V m c main_v5 (ix3 (bat t) l d) := by
  obtain ⟨h0, h1, h2⟩ := idx0 t
  unfold iblk
  rw [View.read_apply]
  show V m c main_v5 _ = V m c main_v5 _
  congr 1
  funext a
  apply Fin.ext
  match a with
  | ⟨0, _⟩ => show win0_0.index t 0 * 1 + 1 * 0 = t.val / 6; omega
  | ⟨1, _⟩ => show win0_0.index t 1 * 512 + 1 * l.val = l.val; omega
  | ⟨2, _⟩ => show win0_0.index t 2 * 768 + 1 * d.val = d.val; omega

theorem iblk1_apply (c : Dev nD) (t : Fin (cfg0 (F := Ideal)).N) (r : Fin 36) (f : Fin 64) (d : Fin 768) :
    (iblk m c 1 t : Vec Ideal S36x64x768 .f32) (ix3 r f d) = V m c main_v0 (ix3 r f d) := by
  obtain ⟨h0, h1, h2⟩ := idx1 t
  unfold iblk
  rw [View.read_apply]
  show V m c main_v0 _ = V m c main_v0 _
  congr 1
  funext a
  apply Fin.ext
  match a with
  | ⟨0, _⟩ => show win0_1.index t 0 * 36 + 1 * r.val = r.val; omega
  | ⟨1, _⟩ => show win0_1.index t 1 * 64 + 1 * f.val = f.val; omega
  | ⟨2, _⟩ => show win0_1.index t 2 * 768 + 1 * d.val = d.val; omega

theorem iblk2_apply (c : Dev nD) (t : Fin (cfg0 (F := Ideal)).N) (r : Fin 36) (f : Fin 64) :
    (iblk m c 2 t : Vec Ideal S36x64 .f32) (ix2 r f) = V m c main_v1 (ix2 r f) := by
  obtain ⟨h0, h1⟩ := idx2 t
  unfold iblk
  rw [View.read_apply]
  show V m c main_v1 _ = V m c main_v1 _
  congr 1
  funext a
  apply Fin.ext
  match a with
  | ⟨0, _⟩ => show win0_2.index t 0 * 36 + 1 * r.val = r.val; omega
  | ⟨1, _⟩ => show win0_2.index t 1 * 64 + 1 * f.val = f.val; omega

theorem iblk3_apply (c : Dev nD) (t : Fin (cfg0 (F := Ideal)).N) (h : Fin 12) (f : Fin 64) (e : Fin 768) :
    (iblk m c 3 t : Vec Ideal S12x64x768 .f32) (ix3 h f e) = V m c main_v3 (ix3 h f e) := by
  obtain ⟨h0, h1, h2⟩ := idx3 t
  unfold iblk
  rw [View.read_apply]
  show V m c main_v3 _ = V m c main_v3 _
  congr 1
  funext a
  apply Fin.ext
  match a with
  | ⟨0, _⟩ => show win0_3.index t 0 * 12 + 1 * h.val = h.val; omega
  | ⟨1, _⟩ => show win0_3.index t 1 * 64 + 1 * f.val = f.val; omega
  | ⟨2, _⟩ => show win0_3.index t 2 * 768 + 1 * e.val = e.val; omega

theorem iblk4_apply (c : Dev nD) (t : Fin (cfg0 (F := Ideal)).N) (e : Fin 768) :
    (iblk m c 4 t : Vec Ideal S1x768 .f32) (ix2 0 e) = V m c main_v4 (ix2 0 e) := by
  obtain ⟨h0, h1⟩ := idx4 t
  unfold iblk
  rw [View.read_apply]
  show V m c main_v4 _ = V m c main_v4 _
  congr 1
  funext a
  apply Fin.ext
  match a with
  | ⟨0, _⟩ => show win0_4.index t 0 * 1 + 1 * 0 = 0; omega
  | ⟨1, _⟩ => show win0_4.index t 1 * 768 + 1 * e.val = e.val; omega

theorem X5_apply (c : Dev nD) (t : Fin (cfg0 (F := Ideal)).N) (k l : Fin 512) :
    (X0_5 m c t : Vec Ideal S1x512x512 .f32) (ix3 0 k l) = V m c main_v6 (ix3 (bat t) ⟨k.val, by omega⟩ ⟨l.val, by omega⟩) := by
  obtain ⟨h0, h1, h2⟩ := idx5 t
  unfold X0_5 Pipeline.Window.fill
  rw [dif_pos (moved0_5 t (ix3 0 k l))]
  unfold iblk
  rw [View.read_apply]
  show V m c main_v6 _ = V m c main_v6 _
  congr 1
  funext a
  apply Fin.ext
  match a with
  | ⟨0, _⟩ => show win0_5.index t 0 * 1 + 1 * 0 = t.val / 6; omega
  | ⟨1, _⟩ => show win0_5.index t 1 * 512 + 1 * k.val = k.val; omega
  | ⟨2, _⟩ => show win0_5.index t 2 * 512 + 1 * l.val = l.val; omega

/-! ## The host lines before the kernel -/

theorem V5_apply (c : Dev nD) (b : Fin 12) (l : Fin 512) (d : Fin 768) :
    V m c main_v5 (ix3 b l d) = m ((c : Thread nD τ).loc main_arg0) (ix3 l b d) := by
  have h : V m c main_v5 = transpose S12x512x768 [1, 0, 2] (m ((c : Thread nD τ).loc main_arg0)) transposes_S512x12x768_S12x512x768_1_0_2 := by
    unfold V V0
    simp only [hostOps0, List.flatten_cons, List.flatten_nil, List.append_nil]
    after_results_simp <;> rfl
  rw [h]
  pointwise

theorem V6_apply (c : Dev nD) (b : Fin 12) (k l : Fin 768) :
    V m c main_v6 (ix3 b k l) = m ((c : Thread nD τ).loc main_arg5) (ix3 b l k) := by
  have h : V m c main_v6 = transpose S12x768x768 [0, 2, 1] (m ((c : Thread nD τ).loc main_arg5)) transposes_S12x768x768_S12x768x768_0_2_1 := by
    unfold V V0
    simp only [hostOps0, List.flatten_cons, List.flatten_nil, List.append_nil]
    after_results_simp <;> rfl
  rw [h]
  pointwise

set_option maxHeartbeats 2000000 in
theorem reshape36 (X : Vec Ideal S2304x768 .f32) (r : Fin 36) (f : Fin 64) (d : Fin 768) :
    shapeCast S36x64x768 X shapeCasts_S2304x768_S36x64x768 (ix3 r f d) = X (ix2 ⟨r.val * 64 + f.val, by omega⟩ d) := by
  pointwise

theorem Vv0_apply (c : Dev nD) (r : Fin 36) (f : Fin 64) (d : Fin 768) :
    V m c main_v0 (ix3 r f d) = m ((c : Thread nD τ).loc main_arg1) (ix2 ⟨r.val * 64 + f.val, by omega⟩ d) := by
  have h : V m c main_v0 = shapeCast S36x64x768 (m ((c : Thread nD τ).loc main_arg1)) shapeCasts_S2304x768_S36x64x768 := by
    unfold V V0
    simp only [hostOps0, List.flatten_cons, List.flatten_nil, List.append_nil]
    after_results_simp <;> rfl
  rw [h]
  exact reshape36 _ r f d

theorem Vv1_apply (c : Dev nD) (r : Fin 36) (f : Fin 64) :
    V m c main_v1 (ix2 r f) = m ((c : Thread nD τ).loc main_arg2) (ix1 ⟨r.val * 64 + f.val, by omega⟩) := by
  have h : V m c main_v1 = shapeCast S36x64 (m ((c : Thread nD τ).loc main_arg2)) shapeCasts_S2304_S36x64 := by
    unfold V V0
    simp only [hostOps0, List.flatten_cons, List.flatten_nil, List.append_nil]
    after_results_simp <;> rfl
  rw [h]
  pointwise

theorem Vv3_apply (c : Dev nD) (h : Fin 12) (f : Fin 64) (e : Fin 768) :
    V m c main_v3 (ix3 h f e) = m ((c : Thread nD τ).loc main_arg3) (ix2 e ⟨h.val * 64 + f.val, by omega⟩) := by
  have h : V m c main_v3 = transpose S12x64x768 [1, 2, 0] (shapeCast S768x12x64 (m ((c : Thread nD τ).loc main_arg3)) shapeCasts_S768x768_S768x12x64) transposes_S768x12x64_S12x64x768_1_2_0 := by
    unfold V V0
    simp only [hostOps0, List.flatten_cons, List.flatten_nil, List.append_nil]
    after_results_simp <;> rfl
  rw [h]
  pointwise

theorem Vv4_apply (c : Dev nD) (e : Fin 768) :
    V m c main_v4 (ix2 0 e) = m ((c : Thread nD τ).loc main_arg4) (ix1 e) := by
  have h : V m c main_v4 = shapeCast S1x768 (m ((c : Thread nD τ).loc main_arg4)) shapeCasts_S768_S1x768 := by
    unfold V V0
    simp only [hostOps0, List.flatten_cons, List.flatten_nil, List.append_nil]
    after_results_simp <;> rfl
  rw [h]
  pointwise

end Cert.Proof.Val
end
-- ==== Proof.Val.Kernel.lean ====
/-
  The kernel's result: what a batch's points leave is the sum over the heads so far, by induction on the point; the sixth
  point of a batch writes the whole sum back, and the last host line permutes the axes.
-/
module

public import proofs.«01_k».proof.Proof.Val.Blocks
public import Idealize.ShloMosaic.Lib.Quiescent

@[expose] public section

set_option maxRecDepth 16384

noncomputable section

namespace Cert.Proof.Val

open Cert.KernelIdeal Cert.KernelIdeal.Gen Cert.Proof.Thr Cert.Proof.KI
open Idealize.ShloMosaic Idealize.ShloMosaic.TcCoe Idealize.ShloMosaic.Tactic Finset Idealize.SL.Sem
open Idealize.ShloMosaic.Pipeline (Dat)

variable (m : (ℓ : Loc nD τ sig) → Buf (Elt Ideal) ℓ) (ρ : Dev nD → PrngReg)

/-- The arguments, as functions of their coordinates. -/
def ax (c : Dev nD) (l : Fin 512) (b : Fin 12) (d : Fin 768) : EReal := m ((c : Thread nD τ).loc main_arg0) (ix3 l b d)
def aW (c : Dev nD) (r : Fin 2304) (d : Fin 768) : EReal := m ((c : Thread nD τ).loc main_arg1) (ix2 r d)
def abq (c : Dev nD) (r : Fin 2304) : EReal := m ((c : Thread nD τ).loc main_arg2) (ix1 r)
def aWo (c : Dev nD) (e k : Fin 768) : EReal := m ((c : Thread nD τ).loc main_arg3) (ix2 e k)
def abo (c : Dev nD) (e : Fin 768) : EReal := m ((c : Thread nD τ).loc main_arg4) (ix1 e)
def aS (c : Dev nD) (b : Fin 12) (i j : Fin 768) : EReal := m ((c : Thread nD τ).loc main_arg5) (ix3 b i j)

theorem linB_eq (c : Dev nD) (t : Fin (cfg0 (F := Ideal)).N) (r : Fin 36) :
    linB (iblk m c 0 t) (iblk m c 1 t) (iblk m c 2 t) r = qkv (ax m c) (aW m c) (abq m c) (bat t) r := by
  funext l f
  unfold linB qkv lin
  refine congrArg₂ (· + ·) (Finset.sum_congr rfl fun d _ => congrArg₂ (· * ·) ?_ ?_) ?_
  · exact (iblk0_apply m c t l d).trans (V5_apply m c (bat t) l d)
  · exact (iblk1_apply m c t r f d).trans (Vv0_apply m c r f d)
  · exact (iblk2_apply m c t r f).trans (Vv1_apply m c r f)

/-- A point's share of one head is the head's part of the result, once the bias is the batch's. -/
theorem share_eq (c : Dev nD) (t : Fin (cfg0 (F := Ideal)).N) (bias : Vec Ideal S512x512 .f32)
    (hb : ∀ k l, bias (ix2 k l) = biasOf (aS m c) (bat t) k l) (h : Fin 12) (l : Fin 512) (e : Fin 768) :
    share (iblk m c 0 t) (iblk m c 1 t) (iblk m c 2 t) (iblk m c 3 t) bias h l e
      = part (ax m c) (aW m c) (abq m c) (aWo m c) (aS m c) (bat t) l e h := by
  unfold share part scores
  have hb' : (fun t l => bias (ix2 t l)) = biasOf (aS m c) (bat t) := funext fun k => funext fun l => hb k l
  rw [linB_eq, linB_eq, linB_eq, hb']
  exact Finset.sum_congr rfl fun f _ => congrArg (_ * ·) ((iblk3_apply m c t h f e).trans (Vv3_apply m c h f e))

theorem bias_eq (c : Dev nD) (t : Fin (cfg0 (F := Ideal)).N) (k l : Fin 512) :
    k0_pay9 (X0_5 m c t) (ix2 k l) = biasOf (aS m c) (bat t) k l := by
  rw [pay9_apply]
  unfold biasOf
  exact congrArg (fun z => Ideal.log (z + _)) ((X5_apply m c t k l).trans (V6_apply m c (bat t) _ _))

theorem coord1 : ∀ t : Fin grid0.N, (grid0.coords t 1).val = t.val % 6 := by decide +kernel

/-- After point `n` the kept bias is its batch's and the output block holds the heads' parts so far. -/
theorem outsAt_eq (c : Dev nD) : ∀ (n : ℕ) (hn : n < (cfg0 (F := Ideal)).N),
    (∀ k l, (outsAt0 m c n hn).2 (ix2 k l) = biasOf (aS m c) (bat ⟨n, hn⟩) k l)
    ∧ ∀ l e, (outsAt0 m c n hn).1 (ix3 0 l e)
        = partial' (ax m c) (aW m c) (abq m c) (aWo m c) (abo m c) (aS m c) (bat ⟨n, hn⟩) l e (2 * (n % 6) + 2) := by
  have caseA : ∀ (t : Fin (cfg0 (F := Ideal)).N), t.val % 6 = 0 →
      (∀ k l, (outsAt0 m c t.val t.isLt).2 (ix2 k l) = biasOf (aS m c) (bat t) k l)
      ∧ ∀ l e, (outsAt0 m c t.val t.isLt).1 (ix3 0 l e)
        = partial' (ax m c) (aW m c) (abq m c) (aWo m c) (abo m c) (aS m c) (bat t) l e (2 * (t.val % 6) + 2) := by
    intro t h
    have h2 : ¬ 1 ≤ t.val % 6 := by omega
    rw [outsAt0_A m c t h h h2]
    dsimp only
    refine ⟨fun k l => ?_, fun l d => ?_⟩
    · rw [sout_A]; exact bias_eq m c t k l
    · rw [out_A, share_eq m c t _ (bias_eq m c t), share_eq m c t _ (bias_eq m c t)]
      have hA : hdA (grid0.coords t) = 0 := Fin.ext (by show 2 * _ = 0; rw [coord1 t, h])
      have hB : hdB (grid0.coords t) = 1 := Fin.ext (by show 2 * _ + 1 = 1; rw [coord1 t, h])
      rw [hA, hB, h, show 2 * 0 + 2 = 2 from rfl, ← partial_two]
      exact congrArg (_ + ·) ((iblk4_apply m c t d).trans (Vv4_apply m c d))
  intro n
  induction n with
  | zero => exact fun hn => caseA ⟨0, hn⟩ rfl
  | succ n ih =>
    intro hn
    rcases Nat.eq_zero_or_pos ((n + 1) % 6) with h | h
    · exact caseA ⟨n + 1, hn⟩ h
    · have hN : n + 1 < 72 := lt_of_lt_of_eq hn (show (cfg0 (F := Ideal)).N = 72 from N_0)
      obtain ⟨ih1, ih2⟩ := ih (Nat.lt_of_succ_lt hn)
      have hb : bat ⟨n, Nat.lt_of_succ_lt hn⟩ = bat ⟨n + 1, hn⟩ := Fin.ext (by show n / 6 = (n + 1) / 6; omega)
      rw [hb] at ih1 ih2
      have h0 : ¬ (n + 1) % 6 = 0 := by omega
      have e : outsAt0 m c (n + 1) hn = _ := outsAt0_B m c ⟨n + 1, hn⟩ h0 h0 h
      rw [e]
      clear e
      dsimp only
      refine ⟨fun k l => ?_, fun l d => ?_⟩
      · exact ih1 k l
      · rw [out_B]
        have ih1' : ∀ k l, (outsAt0 m c (n + 1 - 1) (Nat.lt_of_le_of_lt (Nat.sub_le _ _) hn)).2 (ix2 k l) = biasOf (aS m c) (bat ⟨n + 1, hn⟩) k l := ih1
        rw [share_eq m c _ _ ih1', share_eq m c _ _ ih1']
        refine (congrArg (· + _) (ih2 l d)).trans ?_
        have hk : 2 * ((n + 1) % 6) + 2 = (2 * (n % 6) + 2) + 2 := by omega
        have hA : hdA (grid0.coords ⟨n + 1, hn⟩) = ⟨2 * (n % 6) + 2, by omega⟩ := Fin.ext (by
          show 2 * _ = 2 * (n % 6) + 2; rw [coord1 ⟨n + 1, hn⟩]; show 2 * ((n + 1) % 6) = _; omega)
        have hB : hdB (grid0.coords ⟨n + 1, hn⟩) = ⟨2 * (n % 6) + 2 + 1, by omega⟩ := Fin.ext (by
          show 2 * _ + 1 = 2 * (n % 6) + 2 + 1; rw [coord1 ⟨n + 1, hn⟩]; show 2 * ((n + 1) % 6) + 1 = _; omega)
        have q0 : 2 * (n % 6) + 2 < 12 := by omega
        have q1 : 2 * (n % 6) + 2 + 1 < 12 := by omega
        rw [hA, hB, hk, partial_step (k := 2 * (n % 6) + 2) (h0 := q0) (h1 := q1)]

/-- The kernel's result before the last host line, as contents of its array. -/
def outArr (c : Dev nD) : Buf (Elt Ideal) ((c : Thread nD τ).loc main_v7) :=
  fun i : S12x512x768.Idx => result (ax m c) (aW m c) (abq m c) (aWo m c) (abo m c) (aS m c) (i 1) (i 0) (i 2)

theorem flushed_eq (c : Dev nD) (t : Fin (cfg0 (F := Ideal)).N) (hf : ((cfg0 (F := Ideal)).win 6).flush t = true) :
    (dats m 0 c).flushed 6 t = (((cfg0 (F := Ideal)).win 6).blk t).view.read (Elt Ideal) (outArr m c) := by
  have h5 : t.val % 6 = 5 := (flush0_6 t).mp hf
  obtain ⟨h0, h1, h2⟩ := idx6 t
  show ((cfg0 (F := Ideal)).win 6).cut (grid0.coords t) ((dats m 0 c).after 6 t) = _
  rw [after0_6]
  funext j
  rw [View.read_apply]
  obtain ⟨a, l, e, rfl⟩ : ∃ (a : Fin 1) (l : Fin 512) (e : Fin 768), j = (ix3 a l e : S1x512x768.Idx) := ⟨_, _, _, eq_ix3 (n0 := 1) (n1 := 512) (n2 := 768) j⟩
  obtain rfl : a = 0 := Subsingleton.elim _ _
  refine Eq.trans (b := (outsAt0 m c t.val t.isLt).1 (ix3 0 l e)) rfl ?_
  rw [(outsAt_eq m c t.val t.isLt).2 l e, h5, show 2 * 5 + 2 = 12 from rfl, partial_twelve]
  unfold outArr
  refine congr (congr (congrArg _ ?_) ?_) ?_
  · apply Fin.ext; show l.val = win0_6.index t 1 * 512 + 1 * l.val; omega
  · apply Fin.ext; show t.val / 6 = win0_6.index t 0 * 1 + 1 * 0; omega
  · apply Fin.ext; show e.val = win0_6.index t 2 * 768 + 1 * e.val; omega

theorem final_v7 (c : Dev nD) : (dats m 0 c).arrAt 6 (cfg0 (F := Ideal)).N = outArr m c :=
  (dats m 0 c).arrAt_eq_of_cover 6 (outArr m c) (flushed_eq m c) fun i => by
    have b0 : (i 0 : Nat) < 12 := (i 0).isLt
    have b1 : (i 1 : Nat) < 512 := (i 1).isLt
    have b2 : (i 2 : Nat) < 768 := (i 2).isLt
    have hN : (cfg0 (F := Ideal)).N = 72 := N_0
    let t : Fin (cfg0 (F := Ideal)).N := ⟨6 * (i 0 : Nat) + 5, by omega⟩
    have ht : t.val = 6 * (i 0 : Nat) + 5 := rfl
    refine ⟨t, (flush0_6 t).mpr (by omega), ?_⟩
    obtain ⟨h0, h1, h2⟩ := idx6 t
    show i ∈ ((View.whole main_v7).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      omega
    | ⟨1, _⟩ =>
      show win0_6.index t 1 * 512 ≤ (i 1 : Nat) ∧ (i 1 : Nat) < win0_6.index t 1 * 512 + 512
      omega
    | ⟨2, _⟩ =>
      show win0_6.index t 2 * 768 ≤ (i 2 : Nat) ∧ (i 2 : Nat) < win0_6.index t 2 * 768 + 768
      omega

/-- The kernel's result. -/
def outK (c : Dev nD) : Buf (Elt Ideal) ((c : Thread nD τ).loc main_v8) :=
  fun i : S512x12x768.Idx => result (ax m c) (aW m c) (abq m c) (aWo m c) (abo m c) (aS m c) (i 0) (i 1) (i 2)

theorem tail_v8 (c : Dev nD) :
    Pipeline.afterTail₀ (cfgs (F := Ideal)) (dats m) 0 (V0 m) [hostOps1] c main_v8 = outK m c := by
  have h : Pipeline.afterTail₀ (cfgs (F := Ideal)) (dats m) 0 (V0 m) [hostOps1] c main_v8
      = transpose S512x12x768 [1, 0, 2] (outArr m c) transposes_S12x512x768_S512x12x768_1_0_2 := by
    unfold Pipeline.afterTail₀
    simp only [hostOps1, List.flatten_cons, List.flatten_nil, List.append_nil]
    after_results_simp
    refine congrArg (fun z => transpose S512x12x768 [1, 0, 2] z transposes_S12x512x768_S512x12x768_1_0_2) ?_
    exact (Pipeline.withArrays_arr spec0 (by decide) c (V0 m c) _ 6).trans (final_v7 m c)
  rw [h]
  funext i
  obtain ⟨l, b, e, rfl⟩ : ∃ (l : Fin 512) (b : Fin 12) (e : Fin 768), i = ix3 l b e := ⟨_, _, _, eq_ix3 i⟩
  have h2 : transpose S512x12x768 [1, 0, 2] (outArr m c) transposes_S12x512x768_S512x12x768_1_0_2 (ix3 l b e) = outArr m c (ix3 b l e) := by
    generalize outArr m c = X
    pointwise
  rw [h2]
  rfl

/-- The kernel's run, read: its result, and the arguments unchanged. -/
theorem kernel_run : θ_run defs (onTc (τ := τ) (main (F := Ideal))) ⟨m, fun _ => 0, ρ⟩ (fun r => ∀ c : Dev nD,
      r.2.mem ((c : Thread nD τ).loc main_v8) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v8 (by decide)).trans (tail_v8 m c), h.2 c⟩)
    (θ_run_and (run_main m ρ) (unchanged m ρ))

end Cert.Proof.Val
end
-- ==== Proof.Ref.Top.lean ====
/-
  The reference's selection in one row: the stable sort of the row's positions, greatest first. Where the 51st value is above
  the 52nd, the first 51 positions are exactly those whose value reaches the 51st largest.
-/
module

public import proofs.«01_k».proof.Proof.Val.Spec
public import Idealize.ShloMosaic.Lib.SortFacts

@[expose] public section

noncomputable section

namespace Cert.Proof.Ref

open Idealize.ShloMosaic Cert.Proof.Thr Cert.Proof.Val Finset

/-- The host's "greater" on two values is the order's. -/
theorem gt_beq (x y : EReal) :
    (FloatOps.cmpfTotal (F := Ideal) (φ := .f32) .gt x y == 1#1) = decide (y < x) := by
  have h : FloatOps.cmpfTotal (F := Ideal) (φ := .f32) .gt x y = BitVec.ofBool (decide (y < x)) := rfl
  rw [h]
  cases decide (y < x) <;> rfl

/-- The position the host's sort puts at place `k`. -/
@[irreducible] def rk (f : Fin 512 → EReal) : Fin 512 → Fin 512 :=
  sortedFrom (fun k k' => FloatOps.cmpfTotal (F := Ideal) (φ := .f32) .gt (f k) (f k') == 1#1)

/-- Values do not grow along the sorted places. -/
theorem rk_anti (f : Fin 512 → EReal) {i j : Fin 512} (h : i ≤ j) : f (rk f j) ≤ f (rk f i) := by
  rcases eq_or_lt_of_le h with rfl | h
  · exact le_rfl
  · unfold rk
    have key := sortedFrom_noInversion
      (fun k k' => FloatOps.cmpfTotal (F := Ideal) (φ := .f32) .gt (f k) (f k') == 1#1)
      (fun k k' => FloatOps.cmpfTotal (F := Ideal) (φ := .f32) .gt (f k) (f k') == 1#1) ?_ (fun _ _ h => h) ?_ i j h
    · rw [gt_beq] at key
      exact not_lt.mp (of_decide_eq_false key)
    · intro a b h
      rw [gt_beq] at h ⊢
      exact decide_eq_false (not_lt.mpr (le_of_lt (of_decide_eq_true h)))
    · intro a b c h1 h2
      rw [gt_beq] at h1 h2 ⊢
      exact decide_eq_false (not_lt.mpr ((not_lt.mp (of_decide_eq_false h1)).trans (not_lt.mp (of_decide_eq_false h2))))

/-- Every position has one place, -/
theorem rk_inj (f : Fin 512 → EReal) : Function.Injective (rk f) := by unfold rk; exact sortedFrom_injective _
/-- and every place a position. -/
theorem rk_surj (f : Fin 512 → EReal) : Function.Surjective (rk f) := by unfold rk; exact sortedFrom_surjective _

/-- The first sorted place holds the row's greatest value. -/
theorem rk_zero (f : Fin 512 → EReal) : f (rk f 0) = univ.sup f := by
  refine le_antisymm (le_sup (f := f) (mem_univ _)) (Finset.sup_le fun t _ => ?_)
  obtain ⟨k, rfl⟩ := rk_surj f t
  exact rk_anti f (Fin.zero_le k)

/-- What the precondition says of one row. -/
def Sep (f : Fin 512 → EReal) : Prop := f (rk f 0) ≠ ⊤ ∧ f (rk f 0) ≠ ⊥ ∧ f (rk f 51) < f (rk f 50)

/-- The value at place 50 is the 51st largest. -/
theorem isThr_rk {f : Fin 512 → EReal} : IsThr f (f (rk f 50)) := by
  refine ⟨⟨_, rfl⟩, ?_, ?_⟩
  · have hi : Function.Injective fun k : Fin 51 => rk f ⟨k.val, by omega⟩ := fun a b h => Fin.ext (Fin.mk.inj (rk_inj f h))
    have hsub : (univ : Finset (Fin 51)).map ⟨_, hi⟩ ⊆ univ.filter fun t => f (rk f 50) ≤ f t := by
      intro t ht
      obtain ⟨k, -, rfl⟩ := mem_map.mp ht
      refine mem_filter.mpr ⟨mem_univ _, rk_anti f ?_⟩
      show k.val ≤ 50
      omega
    have hc := card_le_card hsub
    rw [card_map, card_univ, Fintype.card_fin] at hc
    exact hc
  · have hi : Function.Injective fun k : Fin 50 => rk f ⟨k.val, by omega⟩ := fun a b h => Fin.ext (Fin.mk.inj (rk_inj f h))
    have hsub : (univ.filter fun t => f (rk f 50) < f t) ⊆ (univ : Finset (Fin 50)).map ⟨_, hi⟩ := by
      intro t ht
      obtain ⟨k, rfl⟩ := rk_surj f t
      have hk : k < 50 := by
        by_contra hk
        exact absurd (mem_filter.mp ht).2 (not_lt.mpr (rk_anti f (not_lt.mp hk)))
      exact mem_map.mpr ⟨⟨k.val, hk⟩, mem_univ _, congrArg (rk f) (Fin.ext rfl)⟩
    have hc := card_le_card hsub
    rw [card_map, card_univ, Fintype.card_fin] at hc
    exact Nat.lt_succ_of_le hc

/-- The first 51 places hold exactly the positions whose value reaches the 51st largest. -/
theorem kept_iff {f : Fin 512 → EReal} (h : Sep f) (t : Fin 512) :
    (∃ k : Fin 51, rk f ⟨k.val, by omega⟩ = t) ↔ thrOf f ≤ f t := by
  rw [thrOf_eq isThr_rk]
  constructor
  · rintro ⟨k, rfl⟩
    refine rk_anti f ?_
    show k.val ≤ 50
    omega
  · intro ht
    obtain ⟨k, rfl⟩ := rk_surj f t
    have hk : k.val < 51 := by
      by_contra hk
      have h51 : (51 : Fin 512) ≤ k := by
        show 51 ≤ k.val
        omega
      exact absurd (lt_of_le_of_lt (ht.trans (rk_anti f h51)) h.2.2) (lt_irrefl _)
    exact ⟨⟨k.val, hk⟩, rfl⟩

end Cert.Proof.Ref
end
-- ==== Proof.Ref.Soft.lean ====
/-
  The reference's weights against the kernel's, in one row: masking by −∞ outside the kept positions, subtracting the greatest
  value, exponentials, and dividing each weight by their sum before the weighted sum of the values rather than after it.
-/
module

public import proofs.«01_k».proof.Proof.Ref.Top

@[expose] public section

noncomputable section

namespace Cert.Proof.Ref

open Idealize.ShloMosaic Cert.Proof.Thr Cert.Proof.Val Finset

/-- A sum times a real that is not negative, term by term. -/
theorem sum_mul_coe {ι : Type} (s : Finset ι) (g : ι → EReal) {r : ℝ} (hr : 0 ≤ r) :
    (∑ i ∈ s, g i) * (r : EReal) = ∑ i ∈ s, g i * (r : EReal) := by
  classical
  induction s using Finset.induction_on with
  | empty => simp
  | insert a s ha ih =>
    rw [sum_insert ha, sum_insert ha,
      EReal.right_distrib_of_nonneg_of_ne_top (by exact_mod_cast hr) (EReal.coe_ne_top r), ih]

/-- The row after the mask. -/
def msk (f : Fin 512 → EReal) (t : Fin 512) : EReal := f t + (if thrOf f ≤ f t then 0 else ⊥)

/-- The threshold is at most the greatest value. -/
theorem thr_le_sup (f : Fin 512 → EReal) : thrOf f ≤ univ.sup f := by
  rw [thrOf_eq isThr_rk]; exact le_sup (f := f) (mem_univ _)

/-- The mask leaves the row's greatest value. -/
theorem msk_sup (f : Fin 512 → EReal) : univ.sup (msk f) = univ.sup f := by
  refine le_antisymm (Finset.sup_le fun t _ => ?_) ?_
  · unfold msk
    split
    · rw [add_zero]; exact le_sup (f := f) (mem_univ t)
    · rw [EReal.add_bot]; exact bot_le
  · obtain ⟨t, ht⟩ := exists_sup f
    have h : msk f t = univ.sup f := by
      unfold msk
      rw [ht, if_pos (thr_le_sup f), add_zero]
    rw [← h]
    exact le_sup (f := msk f) (mem_univ t)

/-- After the mask the exponentials are the kernel's weights. -/
theorem exp_msk (f : Fin 512 → EReal) (t : Fin 512) : Ideal.exp (msk f t - univ.sup f) = wt f t := by
  unfold msk wt
  split
  · rw [add_zero]
  · rw [EReal.add_bot, EReal.bot_sub]; rfl

/-- Weights are reals, none negative, -/
theorem wt_real {f : Fin 512 → EReal} (h1 : univ.sup f ≠ ⊤) (h0 : univ.sup f ≠ ⊥) (t : Fin 512) :
    ∃ r : ℝ, 0 ≤ r ∧ wt f t = r := by
  unfold wt
  split
  · obtain ⟨M, hM⟩ : ∃ M : ℝ, univ.sup f = M := ⟨_, (EReal.coe_toReal h1 h0).symm⟩
    rw [hM]
    have hle : f t ≤ (M : EReal) := hM ▸ le_sup (f := f) (mem_univ t)
    generalize f t = y at hle
    induction y using EReal.rec with
    | bot => exact ⟨0, le_rfl, rfl⟩
    | top => exact absurd hle (not_le.mpr (EReal.coe_lt_top M))
    | coe y => exact ⟨Real.exp (y - M), (Real.exp_pos _).le, by rw [← EReal.coe_sub]; rfl⟩
  · exact ⟨0, le_rfl, rfl⟩

/-- and their sum is a positive real. -/
theorem sum_wt {f : Fin 512 → EReal} (h1 : univ.sup f ≠ ⊤) (h0 : univ.sup f ≠ ⊥) :
    ∃ z : ℝ, 0 < z ∧ (∑ t, wt f t) = z := by
  choose w hw0 hw using wt_real h1 h0
  obtain ⟨t, ht⟩ := exists_sup f
  have hone : w t = 1 := by
    have h : wt f t = 1 := by
      unfold wt
      rw [ht, if_pos (thr_le_sup f), EReal.sub_self h1 h0]
      show ((Real.exp 0 : ℝ) : EReal) = 1
      rw [Real.exp_zero]; rfl
    rw [hw t] at h
    exact_mod_cast h
  refine ⟨∑ t, w t, ?_, ?_⟩
  · have := single_le_sum (f := w) (fun i _ => hw0 i) (mem_univ t)
    rw [hone] at this
    linarith
  · rw [sum_congr rfl fun t _ => hw t]
    exact (map_sum (⟨⟨Real.toEReal, rfl⟩, EReal.coe_add⟩ : ℝ →+ EReal) w univ).symm

/-- The reference's row of the result is the kernel's. -/
theorem soft_eq {f : Fin 512 → EReal} (h : Sep f) (v : Fin 512 → Fin 64 → EReal) (e : Fin 64) :
    (∑ t, Ideal.div (Ideal.exp (msk f t - univ.sup (msk f))) (∑ t', Ideal.exp (msk f t' - univ.sup (msk f))) * v t e)
      = hout f v e := by
  have h1 : univ.sup f ≠ ⊤ := rk_zero f ▸ h.1
  have h0 : univ.sup f ≠ ⊥ := rk_zero f ▸ h.2.1
  obtain ⟨z, hz, hs⟩ := sum_wt h1 h0
  rw [msk_sup]
  simp only [exp_msk]
  unfold hout
  rw [hs, Ideal.div_coe hz.ne', one_mul, sum_mul_coe _ _ (by positivity)]
  refine sum_congr rfl fun t _ => ?_
  rw [Ideal.div_coe hz.ne', mul_assoc, mul_assoc, mul_comm (v t e)]

end Cert.Proof.Ref
end
-- ==== Proof.Ref.Form.lean ====
/-
  The reference's composed result, cut into named steps, each read at an index.
-/
module

public import proofs.«01_k».proof.Proof.Ref.Soft
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.Proof.Thr Cert.Proof.Val
open Idealize.ShloMosaic Idealize.ShloMosaic.TcCoe Idealize.ShloMosaic.Tactic Finset Idealize.SL.Sem

/-- The 36 linear maps together. -/
def lin3 (x : FVec Ideal S512x12x768 .f32) (W : FVec Ideal S2304x768 .f32) (bq : FVec Ideal S2304 .f32) : FVec Ideal S512x12x2304 .f32 :=
  addf (Host.dotGeneral dot_S512x12x768_S768x2304_S512x12x2304_2_0_01_1_n_n none x (transpose S768x2304 [1, 0] W transposes_S2304x768_S768x2304_1_0))
    (broadcastInDim S512x12x2304 ![0, 1, 2] bcast_S1x1x2304_S512x12x2304_0_1_2 (broadcastInDim S1x1x2304 ![2] bcast_S2304_S1x1x2304_2 bq))

/-- A third of them, split into heads. -/
def heads (y : FVec Ideal S512x12x768 .f32) : FVec Ideal S12x12x512x64 .f32 :=
  transpose S12x12x512x64 [2, 1, 0, 3] (shapeCast _ y shapeCasts_S512x12x768_S512x12x12x64) transposes_S512x12x12x64_S12x12x512x64_2_1_0_3

/-- The queries, keys and values. -/
def qR (y : FVec Ideal S512x12x2304 .f32) := heads (extractStridedSlice S512x12x768 ![0, 0, 0] y slices_S512x12x2304_S512x12x768_0_0_0)
def kR (y : FVec Ideal S512x12x2304 .f32) := heads (extractStridedSlice S512x12x768 ![0, 0, 768] y slices_S512x12x2304_S512x12x768_0_0_768)
def vR (y : FVec Ideal S512x12x2304 .f32) := heads (extractStridedSlice S512x12x768 ![0, 0, 1536] y slices_S512x12x2304_S512x12x768_0_0_1536)

/-- The scores. -/
def scR (q k : FVec Ideal S12x12x512x64 .f32) (S : FVec Ideal S12x768x768 .f32) : FVec Ideal S12x12x512x512 .f32 :=
  addf (Host.divf (Host.dotGeneral dot_S12x12x512x64_S12x12x512x64_S12x12x512x512_3_3_2_2_01_01 none q k)
      (broadcastInDim S12x12x512x512 ![] bcast_S_S12x12x512x512 (constant S_ .f32 0x41000000#32)))
    (broadcastInDim S12x12x512x512 ![0, 1, 2, 3] bcast_S1x12x512x512_S12x12x512x512_0_1_2_3
      (broadcastInDim S1x12x512x512 ![1, 2, 3] bcast_S12x512x512_S1x12x512x512_1_2_3
        (extractStridedSlice S12x512x512 ![0, 0, 0] (Host.log (addf S (broadcastInDim S12x768x768 ![] bcast_S_S12x768x768 (constant S_ .f32 0x322BCC77#32)))) slices_S12x768x768_S12x512x512_0_0_0)))

/-- The chosen positions, one row of 51 a line. -/
def ixR (X : FVec Ideal S12x12x512x512 .f32) : IVec S73728x51 32 :=
  shapeCast _ ((Host.topK S12x12x512x51 3 (FloatOps.cmpfTotal .gt) X sliceFits_S12x12x512x512_S12x12x512x51).2) shapeCasts_S12x12x512x51_S73728x51

/-- The rows' numbers. -/
def rowR : IVec S73728x1 32 := broadcastInDim S73728x1 ![0] bcast_S73728_S73728x1_0 (iotaInDim S73728 32 0)

/-- Row and column of every entry to set. -/
def pairR (i : IVec S73728x51 32) : IVec S73728x51x2 32 :=
  concatenate S73728x51x2 2 [⟨S73728x51x1, (broadcastInDim S73728x51x1 ![0, 1] bcast_S73728x51_S73728x51x1_0_1 (broadcastInDim S73728x51 ![0, 1] bcast_S73728x1_S73728x51_0_1
      (select (cmpi .slt rowR (broadcastInDim S73728x1 ![] bcast_S_S73728x1 (constantI S_ 32 0#32))) (addi rowR (broadcastInDim S73728x1 ![] bcast_S_S73728x1 (constantI S_ 32 73728#32))) rowR)))⟩,
    ⟨S73728x51x1, (broadcastInDim S73728x51x1 ![0, 1] bcast_S73728x51_S73728x51x1_0_1
      (select (cmpi .slt i (broadcastInDim S73728x51 ![] bcast_S_S73728x51 (constantI S_ 32 0#32))) (addi i (broadcastInDim S73728x51 ![] bcast_S_S73728x51 (constantI S_ 32 512#32))) i))⟩] concatenates_S73728x51x1_S73728x51x1_S73728x51x2_d2

/-- The mask: zero at the chosen positions, −∞ elsewhere. -/
def setR (p : IVec S73728x51x2 32) : FVec Ideal S73728x512 .f32 :=
  Host.scatter scatter_S73728x512_S73728x51x2_S73728x51_n_01_01_2 (fun _ b => b)
    (shapeCast _ (broadcastInDim S12x12x512x512 ![] bcast_S_S12x12x512x512 (constant S_ .f32 0xFF800000#32)) shapeCasts_S12x12x512x512_S73728x512) p
    (broadcastInDim S73728x51 ![] bcast_S_S73728x51 (constant S_ .f32 0x00000000#32))
def maskR (X : FVec Ideal S12x12x512x512 .f32) : FVec Ideal S12x12x512x512 .f32 :=
  shapeCast _ (setR (pairR (ixR X))) shapeCasts_S73728x512_S12x12x512x512

/-- The exponentials of a row after its greatest value is subtracted, and the weights. -/
def expR (Y : FVec Ideal S12x12x512x512 .f32) : FVec Ideal S12x12x512x512 .f32 :=
  Host.exp (subf Y (broadcastInDim S12x12x512x512 ![0, 1, 2, 3] bcast_S12x12x512x1_S12x12x512x512_0_1_2_3 (broadcastInDim S12x12x512x1 ![0, 1, 2] bcast_S12x12x512_S12x12x512x1_0_1_2
    (maximumf (broadcastInDim S12x12x512 ![] bcast_S_S12x12x512 (constant S_ .f32 0xFF800000#32)) (Host.reduce FloatOps.maximumf Y (constant S_ .f32 0xFF800000#32) reducesTo_S12x12x512x512_S12x12x512_d3 h_S_)))))
def softR (E : FVec Ideal S12x12x512x512 .f32) : FVec Ideal S12x12x512x512 .f32 :=
  Host.divf E (broadcastInDim S12x12x512x512 ![0, 1, 2, 3] bcast_S12x12x512x1_S12x12x512x512_0_1_2_3 (broadcastInDim S12x12x512x1 ![0, 1, 2] bcast_S12x12x512_S12x12x512x1_0_1_2
    (Host.reduceAdd E (constant S_ .f32 0x00000000#32) reducesTo_S12x12x512x512_S12x12x512_d3 h_S_)))

/-- The heads' outputs, -/
def ovR (p : FVec Ideal S12x12x512x512 .f32) (v : FVec Ideal S12x12x512x64 .f32) : FVec Ideal S12x12x512x64 .f32 :=
  Host.dotGeneral dot_S12x12x512x512_S12x12x512x64_S12x12x512x64_3_2_2_3_01_01 none p v

/-- side by side, -/
def catR (o : FVec Ideal S12x12x512x64 .f32) : FVec Ideal S512x12x768 .f32 :=
  shapeCast _ (transpose S512x12x12x64 [2, 1, 0, 3] o transposes_S12x12x512x64_S512x12x12x64_2_1_0_3) shapeCasts_S512x12x12x64_S512x12x768

/-- and the last linear map. -/
def outR (y : FVec Ideal S512x12x768 .f32) (Wo : FVec Ideal S768x768 .f32) (bo : FVec Ideal S768 .f32) : FVec Ideal S512x12x768 .f32 :=
  addf (Host.dotGeneral dot_S512x12x768_S768x768_S512x12x768_2_0_01_1_n_n none y (transpose S768x768 [1, 0] Wo transposes_S768x768_S768x768_1_0))
    (broadcastInDim S512x12x768 ![0, 1, 2] bcast_S1x1x768_S512x12x768_0_1_2 (broadcastInDim S1x1x768 ![2] bcast_S768_S1x1x768_2 bo))

/-- The whole. -/
def allR (x : FVec Ideal S512x12x768 .f32) (W : FVec Ideal S2304x768 .f32) (bq : FVec Ideal S2304 .f32) (Wo : FVec Ideal S768x768 .f32) (bo : FVec Ideal S768 .f32)
    (S : FVec Ideal S12x768x768 .f32) : FVec Ideal S512x12x768 .f32 :=
  outR (catR (ovR (softR (expR (addf (scR (qR (lin3 x W bq)) (kR (lin3 x W bq)) S) (maskR (scR (qR (lin3 x W bq)) (kR (lin3 x W bq)) S))))) (vR (lin3 x W bq)))) Wo bo

set_option maxHeartbeats 4000000 in
/-- The reference's composed result is these steps. -/
theorem res_eq (m : (ℓ : Loc nD τ sig) → Buf (Elt Ideal) ℓ) (c : Dev nD) :
    Cert.ReferenceIdeal.Value.res_main_v65 m c
      = allR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v65
  rfl

/-- One entry of the linear maps. -/
theorem lin3_apply (x : FVec Ideal S512x12x768 .f32) (W : FVec Ideal S2304x768 .f32) (bq : FVec Ideal S2304 .f32) (l : Fin 512) (b : Fin 12) (r : Fin 2304) :
    lin3 x W bq (ix3 l b r) = (∑ d : Fin 768, x (ix3 l b d) * W (ix2 r d)) + bq (ix1 r) := by
  unfold lin3
  pointwise

end Cert.Proof.Ref
end
-- ==== Proof.Ref.Sort.lean ====
/-
  A sort of two arrays along the last of four axes, read at an index.
-/
module

public import proofs.«01_k».proof.Proof.Ref.Soft
public import Idealize.ShloMosaic.Lib.Pointwise

@[expose] public section

noncomputable section

namespace Cert.Proof.Ref

open Idealize.ShloMosaic Idealize.ShloMosaic.Tactic

/-- Replacing the last coordinate. -/
theorem along_last {n0 n1 n2 n : ℕ} (h : Fin n0) (b : Fin n1) (l : Fin n2) (j k : Fin n) :
    (ix4 h b l j : (⟨4, ![n0, n1, n2, n]⟩ : Shape).Idx).along (3 : Fin 4) k = ix4 h b l k := by
  unfold Shape.Idx.along
  funext a
  match a with
  | ⟨0, _⟩ => rfl
  | ⟨1, _⟩ => rfl
  | ⟨2, _⟩ => rfl
  | ⟨3, _⟩ => rfl

/-- Both arrays are read at the position the sort of that row puts at `k`. -/
theorem sort_last {n0 n1 n2 n : ℕ} {α β : Type} (cmp : α × β → α × β → BitVec 1) (x : (⟨4, ![n0, n1, n2, n]⟩ : Shape).Idx → α)
    (y : (⟨4, ![n0, n1, n2, n]⟩ : Shape).Idx → β) (h : Fin n0) (b : Fin n1) (l : Fin n2) (k : Fin n) :
    (Host.sort2 ⟨4, ![n0, n1, n2, n]⟩ 3 cmp x y).1 (ix4 h b l k)
        = x (ix4 h b l (sortedFrom (fun a c : Fin n => cmp (x (ix4 h b l a), y (ix4 h b l a)) (x (ix4 h b l c), y (ix4 h b l c)) == 1#1) k))
      ∧ (Host.sort2 ⟨4, ![n0, n1, n2, n]⟩ 3 cmp x y).2 (ix4 h b l k)
        = y (ix4 h b l (sortedFrom (fun a c : Fin n => cmp (x (ix4 h b l a), y (ix4 h b l a)) (x (ix4 h b l c), y (ix4 h b l c)) == 1#1) k)) := by
  unfold Host.sort2
  rw [dif_pos (show 3 < 4 by decide)]
  have hf : (fun a c : Fin n => cmp (x ((ix4 h b l k : (⟨4, ![n0, n1, n2, n]⟩ : Shape).Idx).along (3 : Fin 4) a), y ((ix4 h b l k : (⟨4, ![n0, n1, n2, n]⟩ : Shape).Idx).along (3 : Fin 4) a))
        (x ((ix4 h b l k : (⟨4, ![n0, n1, n2, n]⟩ : Shape).Idx).along (3 : Fin 4) c), y ((ix4 h b l k : (⟨4, ![n0, n1, n2, n]⟩ : Shape).Idx).along (3 : Fin 4) c)) == 1#1)
      = fun a c : Fin n => cmp (x (ix4 h b l a), y (ix4 h b l a)) (x (ix4 h b l c), y (ix4 h b l c)) == 1#1 := by
    funext a c
    rw [along_last, along_last]
  rw [← hf]
  constructor
  · exact congrArg x (along_last h b l k _)
  · exact congrArg y (along_last h b l k _)

/-- The first places of such a sort. -/
theorem cut_last {n0 n1 n2 n w : ℕ} {α : Type} (hw : w ≤ n) (v : (⟨4, ![n0, n1, n2, n]⟩ : Shape).Idx → α)
    (hs : (⟨4, ![n0, n1, n2, n]⟩ : Shape).Slices (fun _ => 0) ⟨4, ![n0, n1, n2, w]⟩) (h : Fin n0) (b : Fin n1) (l : Fin n2) (k : Fin w) :
    extractStridedSlice ⟨4, ![n0, n1, n2, w]⟩ (fun _ => 0) v hs (ix4 h b l k) = v (ix4 h b l (k.castLE hw)) := by
  unfold extractStridedSlice
  refine congrArg v ?_
  funext a
  apply Fin.ext
  match a with
  | ⟨0, _⟩ => exact Nat.zero_add _
  | ⟨1, _⟩ => exact Nat.zero_add _
  | ⟨2, _⟩ => exact Nat.zero_add _
  | ⟨3, _⟩ => exact Nat.zero_add _

/-- The greatest entries of each row and their positions, greater first. -/
theorem top_last {n0 n1 n2 n w : ℕ} (hw : w ≤ n) (X : (⟨4, ![n0, n1, n2, n]⟩ : Shape).Idx → EReal)
    (hs : (⟨4, ![n0, n1, n2, n]⟩ : Shape).Slices (fun _ => 0) ⟨4, ![n0, n1, n2, w]⟩) (h : Fin n0) (b : Fin n1) (l : Fin n2) (k : Fin w) :
    (Host.topK ⟨4, ![n0, n1, n2, w]⟩ 3 (FloatOps.cmpfTotal (F := Ideal) (φ := .f32) .gt) X hs).1 (ix4 h b l k)
        = X (ix4 h b l (sortedFrom (fun a c : Fin n => FloatOps.cmpfTotal (F := Ideal) (φ := .f32) .gt (X (ix4 h b l a)) (X (ix4 h b l c)) == 1#1) (k.castLE hw)))
      ∧ (Host.topK ⟨4, ![n0, n1, n2, w]⟩ 3 (FloatOps.cmpfTotal (F := Ideal) (φ := .f32) .gt) X hs).2 (ix4 h b l k)
        = BitVec.ofNat 32 (sortedFrom (fun a c : Fin n => FloatOps.cmpfTotal (F := Ideal) (φ := .f32) .gt (X (ix4 h b l a)) (X (ix4 h b l c)) == 1#1) (k.castLE hw)).val := by
  unfold Host.topK
  dsimp only
  constructor
  · rw [cut_last hw]
    exact (sort_last _ X _ h b l _).1
  · rw [cut_last hw]
    exact (sort_last _ X _ h b l _).2

end Cert.Proof.Ref
end
-- ==== Proof.Ref.Read.lean ====
/-
  The reference's steps read at an index.
-/
module

public import proofs.«01_k».proof.Proof.Ref.Form
public import proofs.«01_k».proof.Proof.Ref.Sort
public import proofs.«01_k».proof.Proof.Thr.Vec
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.Proof.Thr Cert.Proof.Val
open Idealize.ShloMosaic Idealize.ShloMosaic.TcCoe Idealize.ShloMosaic.Tactic Finset Idealize.SL.Sem

set_option maxHeartbeats 2000000 in
/-- Entry `f` of head `h`. -/
theorem heads_apply (y : FVec Ideal S512x12x768 .f32) (h b : Fin 12) (l : Fin 512) (f : Fin 64) :
    heads y (ix4 h b l f) = y (ix3 l b (at768 h f)) := by
  unfold heads at768
  pointwise

/-- The queries, -/
theorem qR_apply (y : FVec Ideal S512x12x2304 .f32) (h b : Fin 12) (l : Fin 512) (f : Fin 64) :
    qR y (ix4 h b l f) = y (ix3 l b (at64 (row 0 h) f)) := by
  unfold qR
  rw [heads_apply]
  pointwise
  congr 2
  apply Fin.ext
  show h.val * 64 + f.val = (12 * 0 + h.val) * 64 + f.val
  omega

/-- keys -/
theorem kR_apply (y : FVec Ideal S512x12x2304 .f32) (h b : Fin 12) (l : Fin 512) (f : Fin 64) :
    kR y (ix4 h b l f) = y (ix3 l b (at64 (row 1 h) f)) := by
  unfold kR
  rw [heads_apply]
  pointwise
  congr 2
  apply Fin.ext
  show 768 + (h.val * 64 + f.val) = (12 * 1 + h.val) * 64 + f.val
  omega

/-- and values are their rows of the 36 linear maps. -/
theorem vR_apply (y : FVec Ideal S512x12x2304 .f32) (h b : Fin 12) (l : Fin 512) (f : Fin 64) :
    vR y (ix4 h b l f) = y (ix3 l b (at64 (row 2 h) f)) := by
  unfold vR
  rw [heads_apply]
  pointwise
  congr 2
  apply Fin.ext
  show 1536 + (h.val * 64 + f.val) = (12 * 2 + h.val) * 64 + f.val
  omega

set_option maxHeartbeats 2000000 in
/-- A score. -/
theorem scR_apply (q k : FVec Ideal S12x12x512x64 .f32) (S : FVec Ideal S12x768x768 .f32) (h b : Fin 12) (l t : Fin 512) :
    scR q k S (ix4 h b l t) = Ideal.div (∑ f : Fin 64, q (ix4 h b l f) * k (ix4 h b t f)) (Ideal.ofBits .f32 0x41000000#32)
      + Ideal.log (S (ix3 b ⟨l.val, by omega⟩ ⟨t.val, by omega⟩) + Ideal.ofBits .f32 0x322BCC77#32) := by
  unfold scR
  pointwise

set_option maxHeartbeats 2000000 in
/-- A weight is its share of the sum. -/
theorem softR_apply (E : FVec Ideal S12x12x512x512 .f32) (h b : Fin 12) (l t : Fin 512) :
    softR E (ix4 h b l t) = Ideal.div (E (ix4 h b l t)) (∑ t', E (ix4 h b l t')) := by
  unfold softR
  pointwise

set_option maxHeartbeats 2000000 in
/-- A head's output is the weighted sum of the values. -/
theorem ovR_apply (p : FVec Ideal S12x12x512x512 .f32) (v : FVec Ideal S12x12x512x64 .f32) (h b : Fin 12) (l : Fin 512) (f : Fin 64) :
    ovR p v (ix4 h b l f) = ∑ t : Fin 512, p (ix4 h b l t) * v (ix4 h b t f) := by
  unfold ovR
  pointwise

set_option maxHeartbeats 2000000 in
/-- Side by side the heads keep their entries. -/
theorem catR_apply (o : FVec Ideal S12x12x512x64 .f32) (l : Fin 512) (b h : Fin 12) (f : Fin 64) :
    catR o (ix3 l b (at768 h f)) = o (ix4 h b l f) := by
  unfold catR at768
  pointwise

set_option maxHeartbeats 2000000 in
/-- The last linear map. -/
theorem outR_apply (y : FVec Ideal S512x12x768 .f32) (Wo : FVec Ideal S768x768 .f32) (bo : FVec Ideal S768 .f32) (l : Fin 512) (b : Fin 12) (e : Fin 768) :
    outR y Wo bo (ix3 l b e) = (∑ k : Fin 768, y (ix3 l b k) * Wo (ix2 e k)) + bo (ix1 e) := by
  unfold outR
  pointwise

/-- The row of the flat table that holds head `h`, batch `b`, query row `l`. -/
def flat (h b : Fin 12) (l : Fin 512) : Fin 73728 := ⟨(h.val * 12 + b.val) * 512 + l.val, by omega⟩

set_option maxHeartbeats 2000000 in
/-- The choices, one row of 51 a line, -/
theorem flat51 (X : IVec S12x12x512x51 32) (h b : Fin 12) (l : Fin 512) (k : Fin 51) :
    shapeCast S73728x51 X shapeCasts_S12x12x512x51_S73728x51 (ix2 (flat h b l) k) = X (ix4 h b l k) := by
  unfold flat
  pointwise

set_option maxHeartbeats 2000000 in
/-- and the mask back from its lines. -/
theorem flat512 (X : FVec Ideal S73728x512 .f32) (h b : Fin 12) (l : Fin 512) (t : Fin 512) :
    shapeCast S12x12x512x512 X shapeCasts_S73728x512_S12x12x512x512 (ix4 h b l t) = X (ix2 (flat h b l) t) := by
  unfold flat
  pointwise
  congr 2
  apply Fin.ext
  show h.val * 6144 + b.val * 512 + l.val = (h.val * 12 + b.val) * 512 + l.val
  omega

/-- The sort's place `k`, spelled out. -/
theorem rk_eq (f : Fin 512 → EReal) (k : Fin 512) :
    rk f k = sortedFrom (fun a c : Fin 512 => FloatOps.cmpfTotal (F := Ideal) (φ := .f32) .gt (f a) (f c) == 1#1) k := by
  unfold rk
  rfl

/-- The position chosen at place `k`. -/
theorem topk_apply (X : FVec Ideal S12x12x512x512 .f32) (h b : Fin 12) (l : Fin 512) (k : Fin 51) :
    (Host.topK S12x12x512x51 3 (FloatOps.cmpfTotal .gt) X sliceFits_S12x12x512x512_S12x12x512x51).2 (ix4 h b l k)
      = BitVec.ofNat 32 (rk (fun t => X (ix4 h b l t)) (k.castLE (by norm_num))).val :=
  (top_last (show 51 ≤ 512 by norm_num) X sliceFits_S12x12x512x512_S12x12x512x51 h b l k).2.trans
    (congrArg (fun z : Fin 512 => BitVec.ofNat 32 z.val) (rk_eq (fun t => X (ix4 h b l t)) (k.castLE (by norm_num))).symm)

/-- The row of an entry to set is its line, -/
theorem pair_row (i : IVec S73728x51 32) (r : Fin 73728) (k : Fin 51) :
    pairR i (ix3 r k 0) = BitVec.ofNat 32 r.val := by
  unfold pairR rowR
  pointwise
  refine Routing.wrap_of_lt _ _ ?_
  rw [BitVec.toNat_ofNat]
  have := r.isLt
  omega

/-- its column the choice. -/
theorem pair_col (i : IVec S73728x51 32) (r : Fin 73728) (k : Fin 51) (hi : (i (ix2 r k)).toNat < 512) :
    pairR i (ix3 r k 1) = i (ix2 r k) := by
  unfold pairR rowR
  pointwise
  exact Routing.wrap_of_lt _ _ (lt_trans hi (by norm_num))

/-- Where the update of row `r`, choice `k`, lands. -/
theorem lands (i : IVec S73728x51 32) (hi : ∀ r k, (i (ix2 r k)).toNat < 512) (r' : Fin 73728) (k : Fin 51) (r : Fin 73728) (t : Fin 512) :
    ScatterDims.resultIdx? scatter_S73728x512_S73728x51x2_S73728x51_n_01_01_2 (ix2 r' k) (pairR i) = some (ix2 r t)
      ↔ r' = r ∧ (i (ix2 r' k)).toNat = t.val := by
  refine (Routing.scatter_lands2 scatter_S73728x512_S73728x51x2_S73728x51_n_01_01_2 rfl rfl rfl (pairR i) r' k r t).trans ?_
  change (pairR i (ix3 r' k 0)).toInt = (r.val : Int) ∧ (pairR i (ix3 r' k 1)).toInt = (t.val : Int) ↔ _
  rw [pair_row, pair_col _ _ _ (hi r' k)]
  have h1 : (BitVec.ofNat 32 r'.val).toInt = r'.val := by
    rw [BitVec.toInt_eq_toNat_cond, BitVec.toNat_ofNat]
    have := r'.isLt
    rw [Nat.mod_eq_of_lt (by omega), if_pos (by omega)]
  have h2 : (i (ix2 r' k)).toInt = (i (ix2 r' k)).toNat := by
    have := hi r' k
    rw [BitVec.toInt_eq_toNat_cond, if_pos (by omega)]
  rw [h1, h2]
  constructor
  · rintro ⟨a, b⟩; exact ⟨Fin.ext (by exact_mod_cast a), by exact_mod_cast b⟩
  · rintro ⟨rfl, b⟩; exact ⟨rfl, by exact_mod_cast b⟩

/-- The mask table: zero where some choice of the row is the column, −∞ elsewhere. -/
theorem setR_apply (i : IVec S73728x51 32) (hi : ∀ r k, (i (ix2 r k)).toNat < 512) (r : Fin 73728) (t : Fin 512) :
    ((∃ k, (i (ix2 r k)).toNat = t.val) → setR (pairR i) (ix2 r t) = 0)
      ∧ ((¬ ∃ k, (i (ix2 r k)).toNat = t.val) → setR (pairR i) (ix2 r t) = ⊥) := by
  unfold setR
  refine ⟨fun ⟨k, hk⟩ => ?_, fun hno => ?_⟩
  · refine Routing.scatter_set_hit _ _ _ _ _ 0 (fun k' _ => ?_) (ix2 r k) ((lands i hi r k r t).mpr ⟨rfl, hk⟩)
    obtain ⟨a, b, rfl⟩ : ∃ (a : Fin 73728) (b : Fin 51), k' = ix2 a b := ⟨_, _, eq_ix2 k'⟩
    pointwise
  · rw [Routing.scatter_set_miss _ _ _ _ _ fun k' hk' => ?_]
    · pointwise
      exact ofBits_ninf
    · obtain ⟨a, b, rfl⟩ : ∃ (a : Fin 73728) (b : Fin 51), k' = ix2 a b := ⟨_, _, eq_ix2 k'⟩
      obtain ⟨rfl, h⟩ := (lands i hi a b r t).mp hk'
      exact hno ⟨b, h⟩

end Cert.Proof.Ref
end
-- ==== Proof.Ref.Max.lean ====
/-
  The reference's row maximum and exponentials read at an index.
-/
module

public import proofs.«01_k».proof.Proof.Ref.Form
public import proofs.«01_k».proof.Proof.Thr.Vec
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.Proof.Thr Cert.Proof.Val
open Idealize.ShloMosaic Idealize.ShloMosaic.TcCoe Idealize.ShloMosaic.Tactic Finset Idealize.SL.Sem

/-- The greatest value of a row, as the host finds it. -/
def mxR (Y : FVec Ideal S12x12x512x512 .f32) : FVec Ideal S12x12x512 .f32 :=
  maximumf (broadcastInDim S12x12x512 ![] bcast_S_S12x12x512 (constant S_ .f32 0xFF800000#32)) (Host.reduce FloatOps.maximumf Y (constant S_ .f32 0xFF800000#32) reducesTo_S12x12x512x512_S12x12x512_d3 h_S_)

theorem expR_mxR (Y : FVec Ideal S12x12x512x512 .f32) :
    expR Y = Host.exp (subf Y (broadcastInDim S12x12x512x512 ![0, 1, 2, 3] bcast_S12x12x512x1_S12x12x512x512_0_1_2_3 (broadcastInDim S12x12x512x1 ![0, 1, 2] bcast_S12x12x512_S12x12x512x1_0_1_2 (mxR Y)))) := rfl

theorem expR_of (Y : FVec Ideal S12x12x512x512 .f32) (h b : Fin 12) (l t : Fin 512) :
    expR Y (ix4 h b l t) = Ideal.exp (Y (ix4 h b l t) - mxR Y (ix3 h b l)) := by
  rw [expR_mxR]
  generalize mxR Y = M
  pointwise

/-- A maximum with −∞ changes nothing. -/
theorem mx_top (Z : FVec Ideal S12x12x512 .f32) (i : S12x12x512.Idx) :
    maximumf (F := Ideal) (broadcastInDim S12x12x512 ![] bcast_S_S12x12x512 (constant S_ .f32 0xFF800000#32)) Z i = Z i := by
  pointwise
  rw [ofBits_ninf]
  exact max_eq_right bot_le

/-- The host's fold by the maximum. -/
theorem mx_fold (Y : FVec Ideal S12x12x512x512 .f32) (c : FVec Ideal S_ .f32) (h b : Fin 12) (l : Fin 512) :
    Host.reduce FloatOps.maximumf Y c reducesTo_S12x12x512x512_S12x12x512_d3 h_S_ (ix3 h b l)
      = univ.fold max (c (Shape.Idx.first h_S_)) fun k : Fin 512 => Y (ix4 h b l k) := by
  simp only [pointwise]

/-- It is the greatest value of the row. -/
theorem mxR_apply (Y : FVec Ideal S12x12x512x512 .f32) (h b : Fin 12) (l : Fin 512) :
    mxR Y (ix3 h b l) = univ.sup fun t => Y (ix4 h b l t) := by
  unfold mxR
  rw [mx_top, mx_fold]
  have hc : (constant S_ .f32 0xFF800000#32 : FVec Ideal S_ .f32) (Shape.Idx.first h_S_) = ⊥ := ofBits_ninf
  rw [hc]
  exact fold_max_bot _

/-- The exponentials of a row after its greatest value is subtracted. -/
theorem expR_apply (Y : FVec Ideal S12x12x512x512 .f32) (h b : Fin 12) (l t : Fin 512) :
    expR Y (ix4 h b l t) = Ideal.exp (Y (ix4 h b l t) - univ.sup fun t' => Y (ix4 h b l t')) := by
  rw [expR_of, mxR_apply]

end Cert.Proof.Ref
end
-- ==== Proof.Ref.Value.lean ====
/-
  The reference's result is the mathematics of `result`, wherever every row of scores is separated.
-/
module

public import proofs.«01_k».proof.Proof.Ref.Read
public import proofs.«01_k».proof.Proof.Ref.Max

@[expose] public section

set_option maxRecDepth 16384

noncomputable section

namespace Cert.Proof.Ref

open Cert.ReferenceIdeal Cert.ReferenceIdeal.Gen Cert.Proof.Thr Cert.Proof.Val
open Idealize.ShloMosaic Idealize.ShloMosaic.TcCoe Idealize.ShloMosaic.Tactic Finset Idealize.SL.Sem

/-- The chosen positions of one row, as numbers. -/
theorem ix_toNat (X : FVec Ideal S12x12x512x512 .f32) (h b : Fin 12) (l : Fin 512) (k : Fin 51) :
    (ixR X (ix2 (flat h b l) k)).toNat = (rk (fun t => X (ix4 h b l t)) (k.castLE (by norm_num))).val := by
  have e : ixR X (ix2 (flat h b l) k) = BitVec.ofNat 32 (rk (fun t => X (ix4 h b l t)) (k.castLE (by norm_num))).val :=
    (flat51 _ h b l k).trans (topk_apply X h b l k)
  rw [e, BitVec.toNat_ofNat]
  generalize rk (fun t => X (ix4 h b l t)) (k.castLE (by norm_num)) = z
  have := z.isLt
  omega

/-- Every line of the flat table is one head's, one batch's and one query row's. -/
theorem flat_surj (r : Fin 73728) : ∃ h b l, r = flat h b l := by
  have := r.isLt
  refine ⟨⟨r.val / 6144, by omega⟩, ⟨r.val / 512 % 12, by omega⟩, ⟨r.val % 512, by omega⟩, Fin.ext ?_⟩
  show r.val = (r.val / 6144 * 12 + r.val / 512 % 12) * 512 + r.val % 512
  omega

/-- Every chosen position is a column. -/
theorem ix_lt (X : FVec Ideal S12x12x512x512 .f32) (r : Fin 73728) (k : Fin 51) : (ixR X (ix2 r k)).toNat < 512 := by
  obtain ⟨h, b, l, rfl⟩ := flat_surj r
  rw [ix_toNat]
  exact Fin.isLt _

/-- The mask is zero at the scores that reach the threshold and −∞ elsewhere. -/
theorem maskR_apply (X : FVec Ideal S12x12x512x512 .f32) (h b : Fin 12) (l t : Fin 512) (hs : Sep fun t => X (ix4 h b l t)) :
    maskR X (ix4 h b l t) = if thrOf (fun t => X (ix4 h b l t)) ≤ X (ix4 h b l t) then 0 else ⊥ := by
  have hiff : (∃ k, (ixR X (ix2 (flat h b l) k)).toNat = t.val) ↔ thrOf (fun t => X (ix4 h b l t)) ≤ X (ix4 h b l t) := by
    refine Iff.trans (exists_congr fun k => ?_) (kept_iff hs t)
    rw [ix_toNat]
    exact Fin.ext_iff.symm
  refine (flat512 _ h b l t).trans ?_
  split
  · rename_i hk
    exact (setR_apply _ (ix_lt X) _ t).1 (hiff.mpr hk)
  · rename_i hk
    exact (setR_apply _ (ix_lt X) _ t).2 (mt hiff.mp hk)

/-- One head's output. -/
theorem head_eq (X : FVec Ideal S12x12x512x512 .f32) (v : FVec Ideal S12x12x512x64 .f32) (h b : Fin 12) (l : Fin 512) (e : Fin 64)
    (hs : Sep fun t => X (ix4 h b l t)) :
    ovR (softR (expR (addf X (maskR X)))) v (ix4 h b l e)
      = hout (fun t => X (ix4 h b l t)) (fun t f => v (ix4 h b t f)) e := by
  have hY : ∀ t, addf X (maskR X) (ix4 h b l t) = msk (fun t => X (ix4 h b l t)) t := by
    intro t
    change X (ix4 h b l t) + maskR X (ix4 h b l t) = _
    rw [maskR_apply X h b l t hs]
    rfl
  have hE : ∀ t, expR (addf X (maskR X)) (ix4 h b l t)
      = Ideal.exp (msk (fun t => X (ix4 h b l t)) t - univ.sup (msk fun t => X (ix4 h b l t))) := by
    intro t
    rw [expR_apply]
    simp only [hY]
  rw [ovR_apply, ← soft_eq hs]
  refine sum_congr rfl fun t _ => ?_
  rw [softR_apply]
  simp only [hE]

/-- Dividing by eight is multiplying by one eighth. -/
theorem div8 (x : EReal) : Ideal.div x (Ideal.ofBits .f32 0x41000000#32) = x * c8 := by
  have h8 : Ideal.ofBits .f32 0x41000000#32 = ((8 : ℝ) : EReal) := by
    simp [Ideal.ofBits, Ideal.ieee]
    rw [← EReal.coe_mul]
    norm_num
  have hc : c8 = ((1 / 8 : ℝ) : EReal) := by
    unfold c8
    simp [Ideal.ofBits, Ideal.ieee]
    rw [← EReal.coe_mul]
    norm_num
  rw [h8, hc, Ideal.div_coe (by norm_num)]

section whole

variable (x : FVec Ideal S512x12x768 .f32) (W : FVec Ideal S2304x768 .f32) (bq : FVec Ideal S2304 .f32) (Wo : FVec Ideal S768x768 .f32)
  (bo : FVec Ideal S768 .f32) (S : FVec Ideal S12x768x768 .f32)

/-- One of the 36 linear maps. -/
theorem qkv_eq (b : Fin 12) (r : Fin 36) (l : Fin 512) (f : Fin 64) :
    lin3 x W bq (ix3 l b (at64 r f))
      = qkv (fun l b d => x (ix3 l b d)) (fun r d => W (ix2 r d)) (fun r => bq (ix1 r)) b r l f :=
  lin3_apply x W bq l b (at64 r f)

/-- The reference's scores. -/
def scX : FVec Ideal S12x12x512x512 .f32 := scR (qR (lin3 x W bq)) (kR (lin3 x W bq)) S

/-- A row of them. -/
theorem scX_row (h b : Fin 12) (l : Fin 512) :
    (fun t => scX x W bq S (ix4 h b l t))
      = scores (fun l b d => x (ix3 l b d)) (fun r d => W (ix2 r d)) (fun r => bq (ix1 r)) (fun b i j => S (ix3 b i j)) h b l := by
  funext t
  unfold scX scores sco biasOf
  rw [scR_apply, div8]
  refine congrArg₂ (· + ·) (congrArg (· * c8) (sum_congr rfl fun f _ => ?_)) rfl
  rw [qR_apply, kR_apply, qkv_eq, qkv_eq, mul_comm]

/-- A sum over 768 features, head by head. -/
theorem sum_heads (g : Fin 768 → EReal) : ∑ k, g k = ∑ h : Fin 12, ∑ f : Fin 64, g (at768 h f) := by
  rw [← Fintype.sum_prod_type' (f := fun h f => g (at768 h f))]
  refine (Fintype.sum_equiv (finProdFinEquiv (m := 12) (n := 64)) _ _ fun p => ?_).symm
  refine congrArg g (Fin.ext ?_)
  show p.1.val * 64 + p.2.val = p.2.val + 64 * p.1.val
  omega

/-- The reference's result. -/
theorem allR_eq (hs : ∀ h b l, Sep fun t => scX x W bq S (ix4 h b l t)) (l : Fin 512) (b : Fin 12) (e : Fin 768) :
    allR x W bq Wo bo S (ix3 l b e)
      = result (fun l b d => x (ix3 l b d)) (fun r d => W (ix2 r d)) (fun r => bq (ix1 r)) (fun e k => Wo (ix2 e k)) (fun e => bo (ix1 e))
          (fun b i j => S (ix3 b i j)) l b e := by
  refine (outR_apply _ Wo bo l b e).trans ?_
  unfold result
  rw [sum_heads]
  refine congrArg (· + _) (sum_congr rfl fun h _ => ?_)
  unfold part
  refine sum_congr rfl fun f _ => congrArg (· * _) ?_
  rw [catR_apply]
  refine (head_eq (scX x W bq S) (vR (lin3 x W bq)) h b l f (hs h b l)).trans ?_
  rw [scX_row]
  refine congrArg (fun v => hout _ v f) ?_
  funext t f
  rw [vR_apply, qkv_eq]

end whole

end Cert.Proof.Ref
end
-- ==== Proof.Ref.Pre.lean ====
/-
  The precondition read: every row of scores is separated.
-/
module

public import proofs.«01_k».proof.Proof.Ref.Value
public import proofs.«01_k».proof.Proof.Gen.Pre_separated

@[expose] public section

set_option maxRecDepth 16384

noncomputable section

namespace Cert.Proof.Ref

open Cert.Pre_separated Cert.Pre_separated.Gen Cert.Proof.Thr Cert.Proof.Val
open Idealize.ShloMosaic Idealize.ShloMosaic.Tactic Finset

/-- One of the 52 greatest scores of each row. -/
def at52 (o : ℕ) (X : FVec Ideal S12x12x512x52 .f32) (h : S12x12x512x52.Slices ![0, 0, 0, o] S12x12x512x1) : FVec Ideal S12x12x512 .f32 :=
  shapeCast S12x12x512 (extractStridedSlice S12x12x512x1 ![0, 0, 0, o] X h) Gen.shapeCasts_S12x12x512x1_S12x12x512

/-- The first, -/
theorem at52_0 (X : FVec Ideal S12x12x512x52 .f32) (h b : Fin 12) (l : Fin 512) :
    at52 0 X Gen.slices_S12x12x512x52_S12x12x512x1_0_0_0_0 (ix3 h b l) = X (ix4 h b l 0) := by
  unfold at52
  pointwise

/-- the 51st -/
theorem at52_50 (X : FVec Ideal S12x12x512x52 .f32) (h b : Fin 12) (l : Fin 512) :
    at52 50 X Gen.slices_S12x12x512x52_S12x12x512x1_0_0_0_50 (ix3 h b l) = X (ix4 h b l 50) := by
  unfold at52
  pointwise

/-- and the 52nd of them. -/
theorem at52_51 (X : FVec Ideal S12x12x512x52 .f32) (h b : Fin 12) (l : Fin 512) :
    at52 51 X Gen.slices_S12x12x512x52_S12x12x512x1_0_0_0_51 (ix3 h b l) = X (ix4 h b l 51) := by
  unfold at52
  pointwise

/-- The score at place `k` of its row. -/
theorem top52 (X : FVec Ideal S12x12x512x512 .f32) (h b : Fin 12) (l : Fin 512) (k : Fin 52) :
    (Host.topK S12x12x512x52 3 (FloatOps.cmpfTotal .gt) X Gen.sliceFits_S12x12x512x512_S12x12x512x52).1 (ix4 h b l k)
      = X (ix4 h b l (rk (fun t => X (ix4 h b l t)) (k.castLE (by norm_num)))) :=
  (top_last (show 52 ≤ 512 by norm_num) X Gen.sliceFits_S12x12x512x512_S12x12x512x52 h b l k).1.trans
    (congrArg (fun z : Fin 512 => X (ix4 h b l z)) (rk_eq (fun t => X (ix4 h b l t)) (k.castLE (by norm_num))).symm)

/-- The comparison of one row. -/
def testOf (x y z : EReal) : BitVec 1 :=
  FloatOps.cmpf (F := Ideal) (φ := .f32) .olt (FloatOps.hostAbsf (F := Ideal) (φ := .f32) x) (Ideal.ofBits .f32 0x7F800000#32) &&& FloatOps.cmpf (F := Ideal) (φ := .f32) .ogt y z

/-- What the comparison says. -/
theorem testOf_one {x y z : EReal} (h : testOf x y z = 1#1) : x ≠ ⊤ ∧ x ≠ ⊥ ∧ z < y := by
  unfold testOf at h
  rw [ofBits_pinf] at h
  have h' : BitVec.ofBool (decide (max x (-x) < ⊤)) &&& BitVec.ofBool (decide (z < y)) = 1#1 := h
  have h1 : max x (-x) < ⊤ := by
    by_contra hn
    rw [decide_eq_false hn] at h'
    revert h'
    cases decide (z < y) <;> decide
  have h2 : z < y := by
    by_contra hn
    rw [decide_eq_false hn] at h'
    revert h'
    cases decide (max x (-x) < ⊤) <;> decide
  refine ⟨fun e => ?_, fun e => ?_, h2⟩
  · rw [e] at h1; simp at h1
  · rw [e] at h1; simp at h1

/-- The precondition's entry is the comparison of its row. -/
theorem part1_apply (X : FVec Ideal S12x12x512x512 .f32) (h b : Fin 12) (l : Fin 512) :
    fn_part1 X (ix3 h b l) = testOf (X (ix4 h b l (rk (fun t => X (ix4 h b l t)) 0))) (X (ix4 h b l (rk (fun t => X (ix4 h b l t)) 50))) (X (ix4 h b l (rk (fun t => X (ix4 h b l t)) 51))) := by
  have e0 := (at52_0 _ h b l).trans (top52 X h b l 0)
  have e1 := (at52_50 _ h b l).trans (top52 X h b l 50)
  have e2 := (at52_51 _ h b l).trans (top52 X h b l 51)
  refine Eq.trans ?_ (congr (congr (congrArg testOf e0) e1) e2)
  rfl

/-- The precondition, read. -/
theorem sep_of_pre (x : FVec Ideal S512x12x768 .f32) (W : FVec Ideal S2304x768 .f32) (bq : FVec Ideal S2304 .f32) (Wo : FVec Ideal S768x768 .f32)
    (bo : FVec Ideal S768 .f32) (S : FVec Ideal S12x768x768 .f32) (hp : Cert.Pre_separated.fn (F := Ideal) x W bq Wo bo S = fun _ => 1#1)
    (h b : Fin 12) (l : Fin 512) : Sep fun t => scX x W bq S (ix4 h b l t) := by
  have hp' : fn_part1 (scX x W bq S) = fun _ => 1#1 := hp
  have h1 := congrFun hp' (ix3 h b l)
  rw [part1_apply] at h1
  exact testOf_one h1

end Cert.Proof.Ref
end
-- ==== Proof.lean ====
/-
  The proof of `Cert.Claim`: the idealised kernel and the reference each run to the end with their arguments unchanged
  and every semaphore at zero, and on arguments satisfying `separated` they end with the same result.
-/
module

public import proofs.«01_k».proof.Defs
public import proofs.«01_k».proof.Proof.KI.Frame
public import proofs.«01_k».proof.Proof.Val.Kernel
public import proofs.«01_k».proof.Proof.Ref.Pre
public import proofs.«01_k».proof.Proof.Gen.KernelIdeal
public import proofs.«01_k».proof.Proof.Gen.ReferenceIdeal
public import proofs.«01_k».proof.Proof.Gen.ReferenceIdeal.Run
public import proofs.«01_k».proof.Proof.Gen.Pre_separated
public import Idealize.ShloMosaic.Lib.Quiescent

@[expose] public section

noncomputable section

namespace Cert.Proof

open Idealize.ShloMosaic Idealize.ShloMosaic.TcCoe Idealize.SL.Sem

/-- The reference runs to the end, leaves its arguments, and has no semaphore to leave nonzero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2, sem_eq_zero_of_no_sems rfl r.2⟩) (Cert.ReferenceIdeal.Value.run m g)

/-- Where the scores are separated and the arguments agree, the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v65 m' c = Val.outK m c := by
  obtain ⟨h0, h1, h2, h3, h4, h5⟩ := h
  rw [Ref.res_eq, h0, h1, h2, h3, h4, h5]
  funext i
  obtain ⟨l, b, e, rfl⟩ : ∃ (l : Fin 512) (b : Fin 12) (e : Fin 768), i = ix3 l b e := ⟨_, _, _, eq_ix3 i⟩
  exact Ref.allR_eq _ _ _ _ _ _ (Ref.sep_of_pre _ _ _ _ _ _ hp) l b e

/-- The claim. -/
theorem claim : Cert.Claim :=
  ⟨Cert.KernelIdeal.Gen.facts, Cert.ReferenceIdeal.Gen.facts, Cert.Pre_separated.Gen.facts,
    fun m g _ => KI.frame m g,
    fun m g _ => KI.frame m g,
    fun m g _ => ref_frame m g,
    fun m g _ => ref_frame m g,
    fun m g m' g' hp ha => ⟨Val.outK m, Val.kernel_run m g,
      (θ_run _ _ _).mono (fun _ h c => ⟨(h c).1.trans (same m m' c (hp c) (ha c)), (h c).2⟩) (Cert.ReferenceIdeal.Value.run m' g')⟩⟩

end Cert.Proof

end
